-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_cst_11) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S4x3x224x224 : Shape := ⟨4, ![4, 3, 224, 224]⟩
abbrev S192x3x3x3 : Shape := ⟨4, ![192, 3, 3, 3]⟩
abbrev S192 : Shape := ⟨1, ![192]⟩
abbrev S4x192x1x1 : Shape := ⟨4, ![4, 192, 1, 1]⟩
abbrev S4 : Shape := ⟨1, ![4]⟩
abbrev S192x4x1x1 : Shape := ⟨4, ![192, 4, 1, 1]⟩
abbrev S3x192x3x3 : Shape := ⟨4, ![3, 192, 3, 3]⟩
abbrev S3 : Shape := ⟨1, ![3]⟩
abbrev S_ : Shape := ⟨0, ![]⟩

class Facts : Prop where
  bcast_S_S192 : S_.BroadcastsInDim S192 (![] : Fin 0 → Fin S192.rank)
  reducesTo_S192_S_d0 : S192.ReducesTo [0] S_
  h_S_ : 0 < S_.numel
  bcast_S_S4 : S_.BroadcastsInDim S4 (![] : Fin 0 → Fin S4.rank)
  reducesTo_S4_S_d0 : S4.ReducesTo [0] S_
  bcast_S_S3 : S_.BroadcastsInDim S3 (![] : Fin 0 → Fin S3.rank)
  reducesTo_S3_S_d0 : S3.ReducesTo [0] S_

variable [Facts]

def fn {F : FTy → Type} [FloatOps F] (main_arg0 : FVec F S4x3x224x224 .f32) (main_arg1 : FVec F S192x3x3x3 .f32) (main_arg2 : FVec F S192 .f32) (main_arg3 : FVec F S4x192x1x1 .f32) (main_arg4 : FVec F S4 .f32) (main_arg5 : FVec F S192x4x1x1 .f32) (main_arg6 : FVec F S192 .f32) (main_arg7 : FVec F S3x192x3x3 .f32) (main_arg8 : FVec F S3 .f32) : IVec S_ 1 :=
  let main_cst : FVec F S_ .f32 := constant S_ .f32 0x00000000#32
  let main_v0 : FVec F S192 .f32 := broadcastInDim S192 ![] bcast_S_S192 main_cst
  let main_v1 : IVec S192 1 := cmpf .oeq main_arg2 main_v0
  let main_c : IVec S_ 1 := constantI S_ 1 1#1
  let main_v2 : IVec S_ 1 := (fun x v => Host.reduce IntOp.andi x v reducesTo_S192_S_d0 h_S_) main_v1 main_c
  let main_cst_0 : FVec F S_ .f32 := constant S_ .f32 0x00000000#32
  let main_v3 : FVec F S4 .f32 := broadcastInDim S4 ![] bcast_S_S4 main_cst_0
  let main_v4 : IVec S4 1 := cmpf .oeq main_arg4 main_v3
  let main_c_1 : IVec S_ 1 := constantI S_ 1 1#1
  let main_v5 : IVec S_ 1 := (fun x v => Host.reduce IntOp.andi x v reducesTo_S4_S_d0 h_S_) main_v4 main_c_1
  let main_v6 : IVec S_ 1 := andi main_v2 main_v5
  let main_cst_2 : FVec F S_ .f32 := constant S_ .f32 0x00000000#32
  let main_v7 : FVec F S192 .f32 := broadcastInDim S192 ![] bcast_S_S192 main_cst_2
  let main_v8 : IVec S192 1 := cmpf .oeq main_arg6 main_v7
  let main_c_3 : IVec S_ 1 := constantI S_ 1 1#1
  let main_v9 : IVec S_ 1 := (fun x v => Host.reduce IntOp.andi x v reducesTo_S192_S_d0 h_S_) main_v8 main_c_3
  let main_v10 : IVec S_ 1 := andi main_v6 main_v9
  let main_cst_4 : FVec F S_ .f32 := constant S_ .f32 0x00000000#32
  let main_v11 : FVec F S3 .f32 := broadcastInDim S3 ![] bcast_S_S3 main_cst_4
  let main_v12 : IVec S3 1 := cmpf .oeq main_arg8 main_v11
  let main_c_5 : IVec S_ 1 := constantI S_ 1 1#1
  let main_v13 : IVec S_ 1 := (fun x v => Host.reduce IntOp.andi x v reducesTo_S3_S_d0 h_S_) main_v12 main_c_5
  let main_v14 : IVec S_ 1 := andi main_v10 main_v13
  main_v14
-- ==== Kernel.lean ====
abbrev S4x3x224x224 : Shape := ⟨4, ![4, 3, 224, 224]⟩
abbrev S192x3x3x3 : Shape := ⟨4, ![192, 3, 3, 3]⟩
abbrev S192 : Shape := ⟨1, ![192]⟩
abbrev S4x192x1x1 : Shape := ⟨4, ![4, 192, 1, 1]⟩
abbrev S4 : Shape := ⟨1, ![4]⟩
abbrev S192x4x1x1 : Shape := ⟨4, ![192, 4, 1, 1]⟩
abbrev S3x192x3x3 : Shape := ⟨4, ![3, 192, 3, 3]⟩
abbrev S3 : Shape := ⟨1, ![3]⟩
abbrev S4x6 : Shape := ⟨2, ![4, 6]⟩
abbrev S_ : Shape := ⟨0, ![]⟩
abbrev S4x3x234x228 : Shape := ⟨4, ![4, 3, 234, 228]⟩
abbrev S4x3x234x226 : Shape := ⟨4, ![4, 3, 234, 226]⟩
abbrev S192x27 : Shape := ⟨2, ![192, 27]⟩
abbrev S4x192 : Shape := ⟨2, ![4, 192]⟩
abbrev S192x4 : Shape := ⟨2, ![192, 4]⟩
abbrev S3x3x3x192 : Shape := ⟨4, ![3, 3, 3, 192]⟩
abbrev S27x192 : Shape := ⟨2, ![27, 192]⟩
abbrev S4x224x224 : Shape := ⟨3, ![4, 224, 224]⟩
abbrev S1x3x234x226 : Shape := ⟨4, ![1, 3, 234, 226]⟩
abbrev S1x3x224x224 : Shape := ⟨4, ![1, 3, 224, 224]⟩
abbrev S1x224x224 : Shape := ⟨3, ![1, 224, 224]⟩
abbrev S27x58112 : Shape := ⟨2, ![27, 58112]⟩
abbrev S27x4096 : Shape := ⟨2, ![27, 4096]⟩
abbrev S4x1 : Shape := ⟨2, ![4, 1]⟩
abbrev S1x4096 : Shape := ⟨2, ![1, 4096]⟩
abbrev S1x1x24x226 : Shape := ⟨4, ![1, 1, 24, 226]⟩
abbrev S24x226 : Shape := ⟨2, ![24, 226]⟩
abbrev S1x226 : Shape := ⟨2, ![1, 226]⟩
abbrev S27x226 : Shape := ⟨2, ![27, 226]⟩
abbrev S27x30 : Shape := ⟨2, ![27, 30]⟩
abbrev S27x256 : Shape := ⟨2, ![27, 256]⟩
abbrev S192x4096 : Shape := ⟨2, ![192, 4096]⟩
abbrev S4x4096 : Shape := ⟨2, ![4, 4096]⟩
abbrev S4096 : Shape := ⟨1, ![4096]⟩
abbrev S1x4095 : Shape := ⟨2, ![1, 4095]⟩
abbrev S1x1 : Shape := ⟨2, ![1, 1]⟩
abbrev S1x224 : Shape := ⟨2, ![1, 224]⟩
abbrev S1x1x224 : Shape := ⟨3, ![1, 1, 224]⟩
abbrev S1x1x10x226 : Shape := ⟨4, ![1, 1, 10, 226]⟩
abbrev S10x226 : Shape := ⟨2, ![10, 226]⟩
abbrev S27x512 : Shape := ⟨2, ![27, 512]⟩
abbrev S192x512 : Shape := ⟨2, ![192, 512]⟩
abbrev S4x512 : Shape := ⟨2, ![4, 512]⟩
abbrev S512 : Shape := ⟨1, ![512]⟩
abbrev S1x512 : Shape := ⟨2, ![1, 512]⟩
abbrev S1x511 : Shape := ⟨2, ![1, 511]⟩
abbrev S3x2048 : Shape := ⟨2, ![3, 2048]⟩
abbrev S3x224 : Shape := ⟨2, ![3, 224]⟩
abbrev S3x1x224 : Shape := ⟨3, ![3, 1, 224]⟩
abbrev S1x3x1x224 : Shape := ⟨4, ![1, 3, 1, 224]⟩

abbrev nBuf : Space → Nat
  | .hbm => 29
  | .vmem => 17
  | .smem => 0
  | _ => 0

abbrev bufTy : (tb : Table) → Fin (tcTables nBuf tb) → BufTy
  | .hbm, ⟨0, _⟩ => ⟨S4x3x224x224, .f32⟩
  | .hbm, ⟨1, _⟩ => ⟨S192x3x3x3, .f32⟩
  | .hbm, ⟨2, _⟩ => ⟨S192, .f32⟩
  | .hbm, ⟨3, _⟩ => ⟨S4x192x1x1, .f32⟩
  | .hbm, ⟨4, _⟩ => ⟨S4, .f32⟩
  | .hbm, ⟨5, _⟩ => ⟨S192x4x1x1, .f32⟩
  | .hbm, ⟨6, _⟩ => ⟨S192, .f32⟩
  | .hbm, ⟨7, _⟩ => ⟨S3x192x3x3, .f32⟩
  | .hbm, ⟨8, _⟩ => ⟨S3, .f32⟩
  | .hbm, ⟨9, _⟩ => ⟨S4x6, .f32⟩
  | .hbm, ⟨10, _⟩ => ⟨S_, .i32⟩
  | .hbm, ⟨11, _⟩ => ⟨S_, .f32⟩
  | .hbm, ⟨12, _⟩ => ⟨S4x3x234x228, .f32⟩
  | .hbm, ⟨13, _⟩ => ⟨S4x3x234x228, .bf16⟩
  | .hbm, ⟨14, _⟩ => ⟨S4x3x234x226, .bf16⟩
  | .hbm, ⟨15, _⟩ => ⟨S4x3x234x226, .bf16⟩
  | .hbm, ⟨16, _⟩ => ⟨S4x3x234x226, .bf16⟩
  | .hbm, ⟨17, _⟩ => ⟨S192x27, .f32⟩
  | .hbm, ⟨18, _⟩ => ⟨S192x27, .bf16⟩
  | .hbm, ⟨19, _⟩ => ⟨S4x192, .f32⟩
  | .hbm, ⟨20, _⟩ => ⟨S4x192, .bf16⟩
  | .hbm, ⟨21, _⟩ => ⟨S192x4, .f32⟩
  | .hbm, ⟨22, _⟩ => ⟨S192x4, .bf16⟩
  | .hbm, ⟨23, _⟩ => ⟨S3x3x3x192, .f32⟩
  | .hbm, ⟨24, _⟩ => ⟨S27x192, .f32⟩
  | .hbm, ⟨25, _⟩ => ⟨S27x192, .bf16⟩
  | .hbm, ⟨26, _⟩ => ⟨S4x3x224x224, .f32⟩
  | .hbm, ⟨27, _⟩ => ⟨S4x224x224, .i32⟩
  | .hbm, ⟨28, _⟩ => ⟨S_, .f32⟩
  | .local _ .vmem, ⟨0, _⟩ => ⟨S1x3x234x226, .bf16⟩
  | .local _ .vmem, ⟨1, _⟩ => ⟨S1x3x234x226, .bf16⟩
  | .local _ .vmem, ⟨2, _⟩ => ⟨S1x3x234x226, .bf16⟩
  | .local _ .vmem, ⟨3, _⟩ => ⟨S1x3x234x226, .bf16⟩
  | .local _ .vmem, ⟨4, _⟩ => ⟨S1x3x234x226, .bf16⟩
  | .local _ .vmem, ⟨5, _⟩ => ⟨S1x3x234x226, .bf16⟩
  | .local _ .vmem, ⟨6, _⟩ => ⟨S192x27, .bf16⟩
  | .local _ .vmem, ⟨7, _⟩ => ⟨S4x192, .bf16⟩
  | .local _ .vmem, ⟨8, _⟩ => ⟨S192x4, .bf16⟩
  | .local _ .vmem, ⟨9, _⟩ => ⟨S27x192, .bf16⟩
  | .local _ .vmem, ⟨10, _⟩ => ⟨S4x6, .f32⟩
  | .local _ .vmem, ⟨11, _⟩ => ⟨S1x3x224x224, .f32⟩
  | .local _ .vmem, ⟨12, _⟩ => ⟨S1x3x224x224, .f32⟩
  | .local _ .vmem, ⟨13, _⟩ => ⟨S1x224x224, .i32⟩
  | .local _ .vmem, ⟨14, _⟩ => ⟨S1x224x224, .i32⟩
  | .local _ .vmem, ⟨15, _⟩ => ⟨S27x58112, .f32⟩
  | .local _ .vmem, ⟨16, _⟩ => ⟨S27x4096, .bf16⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_c : Ref sig .tc := ⟨.hbm, 10, rfl⟩
abbrev main_call0_call0_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_v0_0 : Ref sig .tc := ⟨.hbm, 26, rfl⟩
abbrev main_v0_2 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 1], ![false, false]⟩

def k0_off1 (i : grid0.Coords) (c0_i32 : BitVec 32) : Fin 4 → Nat :=
  let c0_16 : Index := 0#32
  let c0_17 : Index := 0#32
  let arg1 : BitVec 32 := BitVec.ofNat 32 (i 1).val
  let c224_i32 : BitVec 32 := 224#32
  let v24 : BitVec 32 := Scalar.muli arg1 c224_i32
  let v29 : BitVec 32 := Scalar.addi v24 c0_i32
  let v30 : Index := Scalar.indexCast v29
  let c0_18 : Index := 0#32
  ![0, 0, v30.toNat, 0]
def k0_off2 (i : grid0.Coords) (c0_i32_19 : BitVec 32) : Fin 4 → Nat :=
  let c0_20 : Index := 0#32
  let c1_21 : Index := 1#32
  let arg1 : BitVec 32 := BitVec.ofNat 32 (i 1).val
  let c224_i32 : BitVec 32 := 224#32
  let v24 : BitVec 32 := Scalar.muli arg1 c224_i32
  let v51 : BitVec 32 := Scalar.addi v24 c0_i32_19
  let v52 : Index := Scalar.indexCast v51
  let c0_22 : Index := 0#32
  ![0, 1, v52.toNat, 0]
def k0_off3 (i : grid0.Coords) (c0_i32_23 : BitVec 32) : Fin 4 → Nat :=
  let c0_24 : Index := 0#32
  let c2_25 : Index := 2#32
  let arg1 : BitVec 32 := BitVec.ofNat 32 (i 1).val
  let c224_i32 : BitVec 32 := 224#32
  let v24 : BitVec 32 := Scalar.muli arg1 c224_i32
  let v73 : BitVec 32 := Scalar.addi v24 c0_i32_23
  let v74 : Index := Scalar.indexCast v73
  let c0_26 : Index := 0#32
  ![0, 2, v74.toNat, 0]
def k0_off4 (i : grid0.Coords) : Fin 4 → Nat :=
  let c0_1757 : Index := 0#32
  let c0_1758 : Index := 0#32
  let arg1 : BitVec 32 := BitVec.ofNat 32 (i 1).val
  let c224_i32 : BitVec 32 := 224#32
  let v24 : BitVec 32 := Scalar.muli arg1 c224_i32
  let c224_i32_1756 : BitVec 32 := 224#32
  let v5555 : BitVec 32 := Scalar.addi v24 c224_i32_1756
  let v5556 : Index := Scalar.indexCast v5555
  let c0_1759 : Index := 0#32
  ![0, 0, v5556.toNat, 0]
def k0_off5 (i : grid0.Coords) : Fin 4 → Nat :=
  let c0_1761 : Index := 0#32
  let c1_1762 : Index := 1#32
  let arg1 : BitVec 32 := BitVec.ofNat 32 (i 1).val
  let c224_i32 : BitVec 32 := 224#32
  let v24 : BitVec 32 := Scalar.muli arg1 c224_i32
  let c224_i32_1760 : BitVec 32 := 224#32
  let v5563 : BitVec 32 := Scalar.addi v24 c224_i32_1760
  let v5564 : Index := Scalar.indexCast v5563
  let c0_1763 : Index := 0#32
  ![0, 1, v5564.toNat, 0]
def k0_off6 (i : grid0.Coords) : Fin 4 → Nat :=
  let c0_1765 : Index := 0#32
  let c2_1766 : Index := 2#32
  let arg1 : BitVec 32 := BitVec.ofNat 32 (i 1).val
  let c224_i32 : BitVec 32 := 224#32
  let v24 : BitVec 32 := Scalar.muli arg1 c224_i32
  let c224_i32_1764 : BitVec 32 := 224#32
  let v5571 : BitVec 32 := Scalar.addi v24 c224_i32_1764
  let v5572 : Index := Scalar.indexCast v5571
  let c0_1767 : Index := 0#32
  ![0, 2, v5572.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x234x226 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x234x226 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x234x226 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S192x27 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S27x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x3x224x224 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x224x224 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x3x224x224 : Shape := ⟨4, ![4, 3, 224, 224]⟩
abbrev S192x3x3x3 : Shape := ⟨4, ![192, 3, 3, 3]⟩
abbrev S192 : Shape := ⟨1, ![192]⟩
abbrev S4x192x1x1 : Shape := ⟨4, ![4, 192, 1, 1]⟩
abbrev S4 : Shape := ⟨1, ![4]⟩
abbrev S192x4x1x1 : Shape := ⟨4, ![192, 4, 1, 1]⟩
abbrev S3x192x3x3 : Shape := ⟨4, ![3, 192, 3, 3]⟩
abbrev S3 : Shape := ⟨1, ![3]⟩
abbrev S_ : Shape := ⟨0, ![]⟩
abbrev S4x3x226x226 : Shape := ⟨4, ![4, 3, 226, 226]⟩
abbrev S192x3x1x1 : Shape := ⟨4, ![192, 3, 1, 1]⟩
abbrev S192x3 : Shape := ⟨2, ![192, 3]⟩
abbrev S4x224x224x192 : Shape := ⟨4, ![4, 224, 224, 192]⟩
abbrev S4x192x224x224 : Shape := ⟨4, ![4, 192, 224, 224]⟩
abbrev S1x192x1x1 : Shape := ⟨4, ![1, 192, 1, 1]⟩
abbrev S4x192 : Shape := ⟨2, ![4, 192]⟩
abbrev S4x224x224x4 : Shape := ⟨4, ![4, 224, 224, 4]⟩
abbrev S4x4x224x224 : Shape := ⟨4, ![4, 4, 224, 224]⟩
abbrev S1x4x1x1 : Shape := ⟨4, ![1, 4, 1, 1]⟩
abbrev S1x1x1x4 : Shape := ⟨4, ![1, 1, 1, 4]⟩
abbrev S4x224x224 : Shape := ⟨3, ![4, 224, 224]⟩
abbrev S192x4 : Shape := ⟨2, ![192, 4]⟩
abbrev S4x192x226x226 : Shape := ⟨4, ![4, 192, 226, 226]⟩
abbrev S3x192x1x1 : Shape := ⟨4, ![3, 192, 1, 1]⟩
abbrev S3x192 : Shape := ⟨2, ![3, 192]⟩
abbrev S4x224x224x3 : Shape := ⟨4, ![4, 224, 224, 3]⟩
abbrev S1x3x1x1 : Shape := ⟨4, ![1, 3, 1, 1]⟩

abbrev nBuf : Space → Nat
  | .hbm => 188
  | .vmem => 0
  | .smem => 0
  | _ => 0

abbrev hbmTy0_0 (i : Nat) : BufTy := match i % 128 with
  | 0 => ⟨S4x3x224x224, .f32⟩
  | 1 => ⟨S192x3x3x3, .f32⟩
  | 2 => ⟨S192, .f32⟩
  | 3 => ⟨S4x192x1x1, .f32⟩
  | 4 => ⟨S4, .f32⟩
  | 5 => ⟨S192x4x1x1, .f32⟩
  | 6 => ⟨S192, .f32⟩
  | 7 => ⟨S3x192x3x3, .f32⟩
  | 8 => ⟨S3, .f32⟩
  | 9 => ⟨S4, .f32⟩
  | 10 => ⟨S4, .f32⟩
  | 11 => ⟨S4, .f32⟩
  | 12 => ⟨S4, .f32⟩
  | 13 => ⟨S4, .i32⟩
  | 14 => ⟨S_, .i32⟩
  | 15 => ⟨S_, .f32⟩
  | 16 => ⟨S4x3x226x226, .f32⟩
  | 17 => ⟨S192x3x1x1, .f32⟩
  | 18 => ⟨S192x3, .f32⟩
  | 19 => ⟨S4x3x224x224, .f32⟩
  | 20 => ⟨S4x224x224x192, .f32⟩
  | 21 => ⟨S4x192x224x224, .f32⟩
  | 22 => ⟨S_, .f32⟩
  | 23 => ⟨S4x192x224x224, .f32⟩
  | 24 => ⟨S4x192x224x224, .f32⟩
  | 25 => ⟨S192x3x1x1, .f32⟩
  | 26 => ⟨S192x3, .f32⟩
  | 27 => ⟨S4x3x224x224, .f32⟩
  | 28 => ⟨S4x224x224x192, .f32⟩
  | 29 => ⟨S4x192x224x224, .f32⟩
  | 30 => ⟨S4x192x224x224, .f32⟩
  | 31 => ⟨S192x3x1x1, .f32⟩
  | 32 => ⟨S192x3, .f32⟩
  | 33 => ⟨S4x3x224x224, .f32⟩
  | 34 => ⟨S4x224x224x192, .f32⟩
  | 35 => ⟨S4x192x224x224, .f32⟩
  | 36 => ⟨S4x192x224x224, .f32⟩
  | 37 => ⟨S192x3x1x1, .f32⟩
  | 38 => ⟨S192x3, .f32⟩
  | 39 => ⟨S4x3x224x224, .f32⟩
  | 40 => ⟨S4x224x224x192, .f32⟩
  | 41 => ⟨S4x192x224x224, .f32⟩
  | 42 => ⟨S4x192x224x224, .f32⟩
  | 43 => ⟨S192x3x1x1, .f32⟩
  | 44 => ⟨S192x3, .f32⟩
  | 45 => ⟨S4x3x224x224, .f32⟩
  | 46 => ⟨S4x224x224x192, .f32⟩
  | 47 => ⟨S4x192x224x224, .f32⟩
  | 48 => ⟨S4x192x224x224, .f32⟩
  | 49 => ⟨S192x3x1x1, .f32⟩
  | 50 => ⟨S192x3, .f32⟩
  | 51 => ⟨S4x3x224x224, .f32⟩
  | 52 => ⟨S4x224x224x192, .f32⟩
  | 53 => ⟨S4x192x224x224, .f32⟩
  | 54 => ⟨S4x192x224x224, .f32⟩
  | 55 => ⟨S192x3x1x1, .f32⟩
  | 56 => ⟨S192x3, .f32⟩
  | 57 => ⟨S4x3x224x224, .f32⟩
  | 58 => ⟨S4x224x224x192, .f32⟩
  | 59 => ⟨S4x192x224x224, .f32⟩
  | 60 => ⟨S4x192x224x224, .f32⟩
  | 61 => ⟨S192x3x1x1, .f32⟩
  | 62 => ⟨S192x3, .f32⟩
  | 63 => ⟨S4x3x224x224, .f32⟩
  | 64 => ⟨S4x224x224x192, .f32⟩
  | 65 => ⟨S4x192x224x224, .f32⟩
  | 66 => ⟨S4x192x224x224, .f32⟩
  | 67 => ⟨S192x3x1x1, .f32⟩
  | 68 => ⟨S192x3, .f32⟩
  | 69 => ⟨S4x3x224x224, .f32⟩
  | 70 => ⟨S4x224x224x192, .f32⟩
  | 71 => ⟨S4x192x224x224, .f32⟩
  | 72 => ⟨S4x192x224x224, .f32⟩
  | 73 => ⟨S1x192x1x1, .f32⟩
  | 74 => ⟨S4x192x224x224, .f32⟩
  | 75 => ⟨S4x192x224x224, .f32⟩
  | 76 => ⟨S_, .f32⟩
  | 77 => ⟨S4x192x224x224, .f32⟩
  | 78 => ⟨S4x192x224x224, .f32⟩
  | 79 => ⟨S4x192, .f32⟩
  | 80 => ⟨S4x224x224x4, .f32⟩
  | 81 => ⟨S4x4x224x224, .f32⟩
  | 82 => ⟨S1x4x1x1, .f32⟩
  | 83 => ⟨S4x4x224x224, .f32⟩
  | 84 => ⟨S4x4x224x224, .f32⟩
  | 85 => ⟨S4x224x224x4, .f32⟩
  | 86 => ⟨S1x1x1x4, .f32⟩
  | 87 => ⟨S4x224x224x4, .f32⟩
  | 88 => ⟨S4x224x224x4, .f32⟩
  | 89 => ⟨S4x224x224x4, .f32⟩
  | 90 => ⟨S1x1x1x4, .f32⟩
  | 91 => ⟨S4x224x224x4, .f32⟩
  | 92 => ⟨S4x224x224x4, .f32⟩
  | 93 => ⟨S1x1x1x4, .f32⟩
  | 94 => ⟨S4x224x224x4, .f32⟩
  | 95 => ⟨S4x224x224x4, .f32⟩
  | 96 => ⟨S4x224x224x4, .f32⟩
  | 97 => ⟨S4x224x224x4, .f32⟩
  | 98 => ⟨S4x224x224x4, .f32⟩
  | 99 => ⟨S_, .f32⟩
  | 100 => ⟨S4, .f32⟩
  | 101 => ⟨S4, .f32⟩
  | 102 => ⟨S4, .f32⟩
  | 103 => ⟨S1x1x1x4, .f32⟩
  | 104 => ⟨S4x224x224x4, .f32⟩
  | 105 => ⟨S4x224x224x4, .f32⟩
  | 106 => ⟨S1x1x1x4, .f32⟩
  | 107 => ⟨S4x224x224x4, .f32⟩
  | 108 => ⟨S4x224x224x4, .f32⟩
  | 109 => ⟨S4x224x224x4, .i32⟩
  | 110 => ⟨S1x1x1x4, .i32⟩
  | 111 => ⟨S4x224x224x4, .i32⟩
  | 112 => ⟨S4x224x224x4, .i32⟩
  | 113 => ⟨S_, .i32⟩
  | 114 => ⟨S4x224x224, .i32⟩
  | 115 => ⟨S4x4x224x224, .f32⟩
  | 116 => ⟨S192x4, .f32⟩
  | 117 => ⟨S4x224x224x192, .f32⟩
  | 118 => ⟨S4x192x224x224, .f32⟩
  | 119 => ⟨S1x192x1x1, .f32⟩
  | 120 => ⟨S4x192x224x224, .f32⟩
  | 121 => ⟨S4x192x224x224, .f32⟩
  | 122 => ⟨S_, .f32⟩
  | 123 => ⟨S4x192x224x224, .f32⟩
  | 124 => ⟨S4x192x224x224, .f32⟩
  | 125 => ⟨S_, .i32⟩
  | 126 => ⟨S_, .f32⟩
  | 127 => ⟨S4x192x226x226, .f32⟩
  | _ => ⟨S4x3x224x224, .f32⟩

abbrev hbmTy0_1 (i : Nat) : BufTy := match i % 128 with
  | 0 => ⟨S3x192x1x1, .f32⟩
  | 1 => ⟨S3x192, .f32⟩
  | 2 => ⟨S4x192x224x224, .f32⟩
  | 3 => ⟨S4x224x224x3, .f32⟩
  | 4 => ⟨S4x3x224x224, .f32⟩
  | 5 => ⟨S_, .f32⟩
  | 6 => ⟨S4x3x224x224, .f32⟩
  | 7 => ⟨S4x3x224x224, .f32⟩
  | 8 => ⟨S3x192x1x1, .f32⟩
  | 9 => ⟨S3x192, .f32⟩
  | 10 => ⟨S4x192x224x224, .f32⟩
  | 11 => ⟨S4x224x224x3, .f32⟩
  | 12 => ⟨S4x3x224x224, .f32⟩
  | 13 => ⟨S4x3x224x224, .f32⟩
  | 14 => ⟨S3x192x1x1, .f32⟩
  | 15 => ⟨S3x192, .f32⟩
  | 16 => ⟨S4x192x224x224, .f32⟩
  | 17 => ⟨S4x224x224x3, .f32⟩
  | 18 => ⟨S4x3x224x224, .f32⟩
  | 19 => ⟨S4x3x224x224, .f32⟩
  | 20 => ⟨S3x192x1x1, .f32⟩
  | 21 => ⟨S3x192, .f32⟩
  | 22 => ⟨S4x192x224x224, .f32⟩
  | 23 => ⟨S4x224x224x3, .f32⟩
  | 24 => ⟨S4x3x224x224, .f32⟩
  | 25 => ⟨S4x3x224x224, .f32⟩
  | 26 => ⟨S3x192x1x1, .f32⟩
  | 27 => ⟨S3x192, .f32⟩
  | 28 => ⟨S4x192x224x224, .f32⟩
  | 29 => ⟨S4x224x224x3, .f32⟩
  | 30 => ⟨S4x3x224x224, .f32⟩
  | 31 => ⟨S4x3x224x224, .f32⟩
  | 32 => ⟨S3x192x1x1, .f32⟩
  | 33 => ⟨S3x192, .f32⟩
  | 34 => ⟨S4x192x224x224, .f32⟩
  | 35 => ⟨S4x224x224x3, .f32⟩
  | 36 => ⟨S4x3x224x224, .f32⟩
  | 37 => ⟨S4x3x224x224, .f32⟩
  | 38 => ⟨S3x192x1x1, .f32⟩
  | 39 => ⟨S3x192, .f32⟩
  | 40 => ⟨S4x192x224x224, .f32⟩
  | 41 => ⟨S4x224x224x3, .f32⟩
  | 42 => ⟨S4x3x224x224, .f32⟩
  | 43 => ⟨S4x3x224x224, .f32⟩
  | 44 => ⟨S3x192x1x1, .f32⟩
  | 45 => ⟨S3x192, .f32⟩
  | 46 => ⟨S4x192x224x224, .f32⟩
  | 47 => ⟨S4x224x224x3, .f32⟩
  | 48 => ⟨S4x3x224x224, .f32⟩
  | 49 => ⟨S4x3x224x224, .f32⟩
  | 50 => ⟨S3x192x1x1, .f32⟩
  | 51 => ⟨S3x192, .f32⟩
  | 52 => ⟨S4x192x224x224, .f32⟩
  | 53 => ⟨S4x224x224x3, .f32⟩
  | 54 => ⟨S4x3x224x224, .f32⟩
  | 55 => ⟨S4x3x224x224, .f32⟩
  | 56 => ⟨S1x3x1x1, .f32⟩
  | 57 => ⟨S4x3x224x224, .f32⟩
  | 58 => ⟨S4x3x224x224, .f32⟩
  | 59 => ⟨S_, .f32⟩
  | _ => ⟨S4x3x224x224, .f32⟩

abbrev hbmTy (i : Nat) : BufTy := match i / 128 with
  | 0 => hbmTy0_0 i
  | 1 => hbmTy0_1 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_c : Ref sig .tc := ⟨.hbm, 13, rfl⟩
abbrev main_c_3 : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_6 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_c_7 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_8 : Ref sig .tc := ⟨.hbm, 122, rfl⟩
abbrev main_v102 : Ref sig .tc := ⟨.hbm, 123, rfl⟩
abbrev main_v103 : Ref sig .tc := ⟨.hbm, 124, rfl⟩
abbrev main_c_9 : Ref sig .tc := ⟨.hbm, 125, rfl⟩
abbrev main_call2_v0 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_10 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_cst_11 : Ref sig .tc := ⟨.hbm, 187, rfl⟩

abbrev nD : Nat := 1
abbrev τ : Topo := Topo.v7x

variable {F : FTy → Type} [FloatOps F]
-- ==== Proof.KernelRun.lean ====
module

public import proofs.«01_k».proof.Proof.Gen.Kernel.Frame
public import proofs.«01_k».proof.Proof.Gen.Kernel.Skeleton

@[expose] public section

/-!
The compiled kernel's body as a triple that says nothing of the values: from its staged blocks it runs to the end and
hands everything back.
-/

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test of both guarded stores of the body (first band, last band): it holds at every point, the grid having
    one band. -/
abbrev onlyBand (i : grid0.Coords) : Prop :=
  (Scalar.cmpi .ne (Scalar.extui (Scalar.cmpi .eq (BitVec.ofNat 32 (i 1).val) 0#32)) 0#32) = 1#1

set_option maxHeartbeats 12000000 in
/-- The body's run, the contents of the results and of the scratch left open. -/
theorem run (c : Dev nD) (i : grid0.Coords) (arg2 : Memref sig .tc .vmem S1x3x234x226 .bf16) (harg2 : arg2.IsWhole) (arg3 : Memref sig .tc .vmem S1x3x234x226 .bf16) (harg3 : arg3.IsWhole) (arg4 : Memref sig .tc .vmem S1x3x234x226 .bf16) (harg4 : arg4.IsWhole) (arg5 : Memref sig .tc .vmem S192x27 .bf16) (harg5 : arg5.IsWhole) (arg6 : Memref sig .tc .vmem S4x192 .bf16) (harg6 : arg6.IsWhole) (arg7 : Memref sig .tc .vmem S192x4 .bf16) (harg7 : arg7.IsWhole) (arg8 : Memref sig .tc .vmem S27x192 .bf16) (harg8 : arg8.IsWhole) (arg9 : Memref sig .tc .vmem S4x6 .f32) (harg9 : arg9.IsWhole) (arg10 : Memref sig .tc .vmem S1x3x224x224 .f32) (harg10 : arg10.IsWhole) (arg11 : Memref sig .tc .vmem S1x224x224 .i32) (harg11 : arg11.IsWhole) (arg12 : Memref sig .tc .vmem S27x58112 .f32) (harg12 : arg12.IsWhole) (arg13 : Memref sig .tc .vmem S27x4096 .bf16) (harg13 : arg13.IsWhole) (hc : onlyBand i)
    (x0 : Vec F S1x3x234x226 .bf16) (x1 : Vec F S1x3x234x226 .bf16) (x2 : Vec F S1x3x234x226 .bf16) (x3 : Vec F S192x27 .bf16) (x4 : Vec F S4x192 .bf16) (x5 : Vec F S192x4 .bf16) (x6 : Vec F S27x192 .bf16) (x7 : Vec F S4x6 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__vqvae_kernel i arg2 harg2 arg3 harg3 arg4 harg4 arg5 harg5 arg6 harg6 arg7 harg7 arg8 harg8 arg9 harg9 arg10 harg10 arg11 harg11 arg12 harg12 arg13 harg13) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec_parts (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [H9]
  · iexists _, _; isplitr; swap; · iexact H9
    ipureintro; rfl
  isplitl [HS0]
  · iexists _, _; isplitr; swap; · iexact HS0
    ipureintro; rfl
  iexists _, _; isplitr; swap; · iexact HS1
  ipureintro; rfl

end Cert.Kernel.Body

end
-- ==== Proof.KernelFrame.lean ====
module

public import proofs.«01_k».proof.Proof.KernelRun
public import Idealize.ShloMosaic.Lib.Claim

@[expose] public section

/-!
The launch of the compiled kernel: it ends, its argument arrays unchanged and no semaphore counter left up. What it
leaves in its results is left open.
-/

set_option maxRecDepth 16384

noncomputable section

namespace Cert.Kernel.Launched

open Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem onlyBand_coords (t : Fin cfg0.N) : onlyBand (grid0.coords t) := by
  have ht : t.val < 4 := Nat.lt_of_lt_of_eq t.isLt N_0
  have e1 : (grid0.coords t 1).val = t.val / 1 % 1 := Pipeline.Grid.coords_val t 1 (by decide) rfl
  simp only [onlyBand, e1]
  word_cmp

/-! The staging memrefs at a point, as the pipeline passes them, and the scratch. -/
abbrev stage0 (t : Fin cfg0.N) : Memref sig .tc .vmem S1x3x234x226 .bf16 := win0_0.stage (cfg0.slots t 0)
abbrev whole0 (t : Fin cfg0.N) : (stage0 t).IsWhole := hstage0_0 ((cfg0.slots t 0).cast nbuf0_0)
abbrev stage1 (t : Fin cfg0.N) : Memref sig .tc .vmem S1x3x234x226 .bf16 := win0_1.stage (cfg0.slots t 1)
abbrev whole1 (t : Fin cfg0.N) : (stage1 t).IsWhole := hstage0_1 ((cfg0.slots t 1).cast nbuf0_1)
abbrev stage2 (t : Fin cfg0.N) : Memref sig .tc .vmem S1x3x234x226 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S192x27 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S4x192 .bf16 := win0_4.stage (cfg0.slots t 4)
abbrev whole4 (t : Fin cfg0.N) : (stage4 t).IsWhole := hstage0_4 ((cfg0.slots t 4).cast nbuf0_4)
abbrev stage5 (t : Fin cfg0.N) : Memref sig .tc .vmem S192x4 .bf16 := win0_5.stage (cfg0.slots t 5)
abbrev whole5 (t : Fin cfg0.N) : (stage5 t).IsWhole := hstage0_5 ((cfg0.slots t 5).cast nbuf0_5)
abbrev stage6 (t : Fin cfg0.N) : Memref sig .tc .vmem S27x192 .bf16 := win0_6.stage (cfg0.slots t 6)
abbrev whole6 (t : Fin cfg0.N) : (stage6 t).IsWhole := hstage0_6 ((cfg0.slots t 6).cast nbuf0_6)
abbrev stage7 (t : Fin cfg0.N) : Memref sig .tc .vmem S4x6 .f32 := win0_7.stage (cfg0.slots t 7)
abbrev whole7 (t : Fin cfg0.N) : (stage7 t).IsWhole := hstage0_7 ((cfg0.slots t 7).cast nbuf0_7)
abbrev stage8 (t : Fin cfg0.N) : Memref sig .tc .vmem S1x3x224x224 .f32 := win0_8.stage (cfg0.slots t 8)
abbrev whole8 (t : Fin cfg0.N) : (stage8 t).IsWhole := hstage0_8 ((cfg0.slots t 8).cast nbuf0_8)
abbrev stage9 (t : Fin cfg0.N) : Memref sig .tc .vmem S1x224x224 .i32 := win0_9.stage (cfg0.slots t 9)
abbrev whole9 (t : Fin cfg0.N) : (stage9 t).IsWhole := hstage0_9 ((cfg0.slots t 9).cast nbuf0_9)
abbrev taps : Memref sig .tc .vmem S27x58112 .f32 := Memref.whole cc0_scratch0
abbrev patches : Memref sig .tc .vmem S27x4096 .bf16 := Memref.whole cc0_scratch1

theorem invariant_eq (c : Dev nD) :
    (Pipeline.ΦA spec0 c : sProp 𝕄)
      = iprop(iprop((∃ d, owns (c : Thread nD τ) taps fullShare d) ∗ (∃ d, owns (c : Thread nD τ) patches fullShare d)) ∗ (∃ r, prngReg c r)) := by
  unfold Pipeline.ΦA; rw [scopedRest0_eq]; simp only [taps, patches, owns_whole]; try rfl

/-- The two results, of which nothing is said. -/
def open0 : Fin 10 → Bool := fun w => w.val == 8 || w.val == 9

/-- The proof data: the arrays as the region finds them, each input's block unchanged by the body, the two results
    left open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare d)
    ∗ (∃ d, owns (c : Thread nD τ) (stage9 t) fullShare d))

def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ (∃ d, owns (c : Thread nD τ) (stage8 t) fullShare d)
    ∗ (∃ d, owns (c : Thread nD τ) (stage9 t) fullShare d))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, invariant_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Body.run c (grid0.coords t) _ _ _ _ _ _ _ _ _ _ _ _ _ _ _ _ _ _ _ _ _ _ _ _ (onlyBand_coords t) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ open0 := fun t => by
  rw [bigSep_W0, bigSep_W0, defs₀_row]
  exact triple_restated (sound_body m c t) rfl .rfl fun _ => .rfl

/-- What the host writes after the region: the difference, a constant. -/
def after0 : Finset (Ref sig .tc) := {main_v0_1}

theorem writes_after : ∀ ops ∈ ([hostOps1] : List (List (HloOp τ sig (Elt F)))), ∀ op ∈ ops,
    ∀ b : Ref sig .tc, Proc.devRef .tc b ∈ op.writes → b ∈ after0 := by
  intro ops hops op hop b hb
  rw [List.mem_singleton] at hops
  subst hops
  rw [List.mem_singleton] at hop
  subst hop
  simp only [StableHlo.nullary_writes, Finset.mem_singleton] at hb
  cases Proc.devRef_injective _ hb
  decide

set_option backward.isDefEq.respectTransparency.types false in
set_option maxHeartbeats 800000 in
theorem run_main : θ_run defs (onTc (τ := τ) (main (F := F))) (s₀ m ρ)
    (fun r => (Pipeline.RDat.FramePostR (cfgs 0) (fun c => (dats m 0 c).toRForget open0) after0 (V m)) r ∧ r.2.sem = fun _ => 0) :=
  Pipeline.θ_run_frame_around_T_forget (Q' := _) cfgs (dats m) (0 : Fin 1) launch0 defs₀ Variants.none open0 after0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := writes_after)
    (hmain := hmain m Variants.none) (hA := A_eq m) (hΦ := fun _ _ => rfl)

/-- The frame of the compiled kernel. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩) (run_main m ρ)

end Cert.Kernel.Launched

end
-- ==== Proof.BodyRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test of both guarded stores of the body (first band, last band): it holds at every point, the grid having
    one band. -/
abbrev onlyBand (i : grid0.Coords) : Prop :=
  (Scalar.cmpi .ne (Scalar.extui (Scalar.cmpi .eq (BitVec.ofNat 32 (i 1).val) 0#32)) 0#32) = 1#1

set_option sl_exec.resultNames true in
set_option maxHeartbeats 12000000 in
/-- The body's run. The witness is what it stores into the two result blocks (the later store first), as a function
    of the staged inputs and of what the decoder scratch held before (`fs0`). -/
def run (c : Dev nD) (i : grid0.Coords) (arg2 : Memref sig .tc .vmem S1x3x234x226 .bf16) (harg2 : arg2.IsWhole) (arg3 : Memref sig .tc .vmem S1x3x234x226 .bf16) (harg3 : arg3.IsWhole) (arg4 : Memref sig .tc .vmem S1x3x234x226 .bf16) (harg4 : arg4.IsWhole) (arg5 : Memref sig .tc .vmem S192x27 .bf16) (harg5 : arg5.IsWhole) (arg6 : Memref sig .tc .vmem S4x192 .bf16) (harg6 : arg6.IsWhole) (arg7 : Memref sig .tc .vmem S192x4 .bf16) (harg7 : arg7.IsWhole) (arg8 : Memref sig .tc .vmem S27x192 .bf16) (harg8 : arg8.IsWhole) (arg9 : Memref sig .tc .vmem S4x6 .f32) (harg9 : arg9.IsWhole) (arg10 : Memref sig .tc .vmem S1x3x224x224 .f32) (harg10 : arg10.IsWhole) (arg11 : Memref sig .tc .vmem S1x224x224 .i32) (harg11 : arg11.IsWhole) (arg12 : Memref sig .tc .vmem S27x58112 .f32) (harg12 : arg12.IsWhole) (arg13 : Memref sig .tc .vmem S27x4096 .bf16) (harg13 : arg13.IsWhole) (hc : onlyBand i)
    (x0 : Vec F S1x3x234x226 .bf16) (x1 : Vec F S1x3x234x226 .bf16) (x2 : Vec F S1x3x234x226 .bf16) (x3 : Vec F S192x27 .bf16) (x4 : Vec F S4x192 .bf16) (x5 : Vec F S192x4 .bf16) (x6 : Vec F S27x192 .bf16) (x7 : Vec F S4x6 .f32)
    (fs0 : Buf (Elt F) (arg12.view.loc (c : Thread nD τ))) :
    Σ' (D : List (View.Piece (Elt F) S1x3x224x224 .f32)),
    { W : List (View.Piece (Elt F) S1x224x224 .i32) //
      ∀ (f8 : Buf (Elt F) (arg10.view.loc (c : Thread nD τ))) (f9 : Buf (Elt F) (arg11.view.loc (c : Thread nD τ)))
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (arg10.view.loc (c : Thread nD τ) ↦[arg10.view.set]{fullShare} f8) ∗ (arg11.view.loc (c : Thread nD τ) ↦[arg11.view.set]{fullShare} f9)
            ∗ (arg12.view.loc (c : Thread nD τ) ↦[arg12.view.set]{fullShare} fs0) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) f8 D)
                ∗ (arg11.view.loc (c : Thread nD τ) ↦[arg11.view.set]{fullShare} arg11.view.writes (Elt F) f9 W)
                ∗ (∃ d, owns (c : Thread nD τ) arg12 fullShare d) ∗ (∃ d, owns (c : Thread nD τ) arg13 fullShare d)) -∗ K ⟨⟩))
          ⊢ wp frame (wpE (defs₀ (F := F)) Variants.none c none) E (cc0__vqvae_kernel i arg2 harg2 arg3 harg3 arg4 harg4 arg5 harg5 arg6 harg6 arg7 harg7 arg8 harg8 arg9 harg9 arg10 harg10 arg11 harg11 arg12 harg12 arg13 harg13) K } := by
  refine ⟨?_, ?_, fun f8 f9 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, H8, H9, HS0, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec_parts (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexact H9
    isplitl [HS0]
    · iexists _, _; isplitr; swap; · iexact HS0
      ipureintro; rfl
    iexists _, _; isplitr; swap; · iexact HS1
    ipureintro; rfl

end Cert.KernelIdeal.Body

end
-- ==== Proof.Pixel.lean ====
module

public import Idealize.ShloMosaic.Lib.Pointwise
public import Mathlib.Tactic.Linarith
public import Mathlib.Tactic.NormNum
public import Mathlib.Tactic.Positivity
public import Mathlib.Tactic.FinCases

@[expose] public section

/-!
The function the network computes at one pixel, over the extended reals.

A pixel's 27 inputs (three channels of a 3x3 window) go through the first two layers to four numbers, which the
quantiser rounds; the rounded numbers give the pixel's index word, and, scaled, go through the decoder's first layer
to the 27 numbers (nine taps of three channels) which the last convolution adds up over the neighbouring pixels.
-/

noncomputable section

namespace Cert.Pixel

open Idealize.ShloMosaic

/-- The two encoder layers at a pixel: `patch q` is input `q` of its window. -/
def enc (w1 : Fin 192 → Fin 27 → EReal) (w2 : Fin 4 → Fin 192 → EReal) (patch : Fin 27 → EReal) (d : Fin 4) : EReal :=
  ∑ k : Fin 192, w2 d k * max (∑ q : Fin 27, w1 k q * patch q) 0

/-- The quantiser's constants, one row per code: half range, offset, shift, half width, its inverse, basis. -/
def fsqWord : Fin 4 → Fin 6 → BitVec 32 :=
  ![![0x405FC6A8#32, 0x3F000000#32, 0x3E137155#32, 0x40800000#32, 0x3E800000#32, 0x3F800000#32],
    ![0x3FFFBE77#32, 0x00000000#32, 0x00000000#32, 0x40000000#32, 0x3F000000#32, 0x41000000#32],
    ![0x3FFFBE77#32, 0x00000000#32, 0x00000000#32, 0x40000000#32, 0x3F000000#32, 0x42200000#32],
    ![0x3FFFBE77#32, 0x00000000#32, 0x00000000#32, 0x40000000#32, 0x3F000000#32, 0x43480000#32]]
def fsq (d : Fin 4) (j : Fin 6) : EReal := Ideal.ofBits .f32 (fsqWord d j)

/-- A code before it is rounded. -/
def bounded (z : Fin 4 → EReal) (d : Fin 4) : EReal := Ideal.tanh (z d + fsq d 2) * fsq d 0 - fsq d 1

/-- The rounded code. -/
def rnd (z : Fin 4 → EReal) (d : Fin 4) : EReal := Ideal.liftRound Ideal.roundHalfEven (bounded z d)

/-- The pixel's index word. -/
def word (z : Fin 4 → EReal) : BitVec 32 := Ideal.fptosi 32 (∑ d : Fin 4, (rnd z d + fsq d 3) * fsq d 5)

/-- The decoder's first layer, and the last layer's products, at a pixel. -/
def dec (wd1 : Fin 192 → Fin 4 → EReal) (wd2 : Fin 27 → Fin 192 → EReal) (z : Fin 4 → EReal) (r : Fin 27) : EReal :=
  ∑ k : Fin 192, wd2 r k * max (∑ d : Fin 4, wd1 k d * (rnd z d * fsq d 4)) 0

/-! ### The quantiser on the extended reals -/

theorem fsq_half (d : Fin 4) : ∃ r : ℝ, fsq d 0 = (r : EReal) ∧ 0 ≤ r ∧ r ≤ 4 := by
  fin_cases d
  · refine ⟨(0x5FC6A8 + 2 ^ 23) * (2 : ℝ) ^ (-22 : ℤ), ?_, by positivity, by norm_num⟩
    simp [fsq, fsqWord, Ideal.ofBits, Ideal.ieee, -EReal.coe_mul]; norm_num
  all_goals
    refine ⟨(0x7FBE77 + 2 ^ 23) * (2 : ℝ) ^ (-23 : ℤ), ?_, by positivity, by norm_num⟩
    simp [fsq, fsqWord, Ideal.ofBits, Ideal.ieee, -EReal.coe_mul]; norm_num

theorem fsq_offset (d : Fin 4) : ∃ r : ℝ, fsq d 1 = (r : EReal) ∧ 0 ≤ r ∧ r ≤ 1 := by
  fin_cases d
  · refine ⟨1 / 2, ?_, by norm_num, by norm_num⟩
    simp [fsq, fsqWord, Ideal.ofBits, Ideal.ieee, -EReal.coe_mul]; norm_num
  all_goals
    refine ⟨0, ?_, le_rfl, by norm_num⟩
    simp [fsq, fsqWord]

/-- The half widths, their inverses and the basis, as numbers. -/
def hw : Fin 4 → ℤ := ![4, 2, 2, 2]
def basis : Fin 4 → ℤ := ![1, 8, 40, 200]

theorem fsq_hw (d : Fin 4) : fsq d 3 = (((hw d : ℤ) : ℝ) : EReal) := by
  fin_cases d <;> simp [fsq, fsqWord, hw, Ideal.ofBits, Ideal.ieee, -EReal.coe_mul] <;> norm_num

theorem fsq_inv (d : Fin 4) : fsq d 4 = ((((hw d : ℤ) : ℝ)⁻¹ : ℝ) : EReal) := by
  fin_cases d <;> simp [fsq, fsqWord, hw, Ideal.ofBits, Ideal.ieee, -EReal.coe_mul] <;> norm_num

theorem fsq_basis (d : Fin 4) : fsq d 5 = (((basis d : ℤ) : ℝ) : EReal) := by
  fin_cases d <;> simp [fsq, fsqWord, basis, Ideal.ofBits, Ideal.ieee, -EReal.coe_mul] <;> norm_num

/-- `tanh` of an extended real is a real number of absolute value at most one. -/
theorem tanh_real (x : EReal) : ∃ r : ℝ, Ideal.tanh x = (r : EReal) ∧ |r| ≤ 1 := by
  induction x with
  | bot => exact ⟨-1, by simp, by simp⟩
  | top => exact ⟨1, by simp, by simp⟩
  | coe x => exact ⟨Real.tanh x, rfl, (Real.abs_tanh_lt_one x).le⟩

/-- So a code is a real number between -5 and 5. -/
theorem bounded_real (z : Fin 4 → EReal) (d : Fin 4) : ∃ r : ℝ, bounded z d = (r : EReal) ∧ |r| ≤ 5 := by
  obtain ⟨t, ht, ht1⟩ := tanh_real (z d + fsq d 2)
  obtain ⟨h, hh, h0, h4⟩ := fsq_half d
  obtain ⟨o, ho, o0, o1⟩ := fsq_offset d
  refine ⟨t * h - o, by rw [bounded, ht, hh, ho]; norm_cast, ?_⟩
  have h1 := abs_le.mp ht1
  rw [abs_le]; constructor <;> nlinarith

theorem roundHalfEven_bound (r : ℝ) : r - 1 ≤ Ideal.roundHalfEven r ∧ (Ideal.roundHalfEven r : ℝ) ≤ r + 1 := by
  have h1 := Int.floor_le r
  have h2 := Int.lt_floor_add_one r
  unfold Ideal.roundHalfEven
  dsimp only
  split_ifs <;> push_cast <;> constructor <;> linarith

/-- And a rounded code is an integer between -6 and 6. -/
theorem rnd_int (z : Fin 4 → EReal) (d : Fin 4) : ∃ n : ℤ, rnd z d = (((n : ℤ) : ℝ) : EReal) ∧ |n| ≤ 6 := by
  obtain ⟨r, hr, h5⟩ := bounded_real z d
  refine ⟨Ideal.roundHalfEven r, by rw [rnd, hr]; rfl, ?_⟩
  obtain ⟨h1, h2⟩ := roundHalfEven_bound r
  have h := abs_le.mp h5
  rw [abs_le]
  constructor
  · have : ((-6 : ℤ) : ℝ) ≤ Ideal.roundHalfEven r := by push_cast; linarith
    exact_mod_cast this
  · have : (Ideal.roundHalfEven r : ℝ) ≤ ((6 : ℤ) : ℝ) := by push_cast; linarith
    exact_mod_cast this

/-- Adding to a code its rounding error gives the rounded code. -/
theorem bounded_add_sub (z : Fin 4 → EReal) (d : Fin 4) : bounded z d + (rnd z d - bounded z d) = rnd z d := by
  obtain ⟨r, hr, _⟩ := bounded_real z d
  obtain ⟨n, hn, _⟩ := rnd_int z d
  rw [hr, hn]; norm_cast; ring

/-- Dividing by the half width is multiplying by its inverse. -/
theorem div_hw (x : EReal) (d : Fin 4) : Ideal.div x (fsq d 3) = x * fsq d 4 := by
  have h0 : ((hw d : ℤ) : ℝ) ≠ 0 := by fin_cases d <;> simp [hw]
  rw [Ideal.div, if_neg, fsq_hw, fsq_inv, EReal.coe_inv]
  rw [fsq_hw]; exact_mod_cast h0

/-- The word of an integer that fits. -/
theorem fptosi_int (n : ℤ) (h : |n| ≤ 100000) : Ideal.fptosi 32 (((n : ℤ) : ℝ) : EReal) = BitVec.ofInt 32 n := by
  have h' := abs_le.mp h
  unfold Ideal.fptosi
  congr 1
  change max _ (min _ (if (0 : ℝ) ≤ (n : ℝ) then ⌊(n : ℝ)⌋ else ⌈(n : ℝ)⌉)) = n
  rw [Int.floor_intCast, Int.ceil_intCast, ite_self]
  norm_num
  omega

/-- The index word is the sum of the codes' words, each times its basis word. -/
theorem word_eq (z : Fin 4 → EReal) :
    word z = Ideal.fptosi 32 (rnd z 0 + fsq 0 3) * 1#32 + Ideal.fptosi 32 (rnd z 1 + fsq 1 3) * 8#32
      + Ideal.fptosi 32 (rnd z 2 + fsq 2 3) * 40#32 + Ideal.fptosi 32 (rnd z 3 + fsq 3 3) * 200#32 := by
  choose n hn hb using rnd_int z
  have hhw : ∀ d, |hw d| ≤ 4 := by decide
  have e : ∀ d, Ideal.fptosi 32 (rnd z d + fsq d 3) = BitVec.ofInt 32 (n d + hw d) := fun d => by
    rw [hn, fsq_hw, ← fptosi_int]
    · push_cast; rfl
    · exact (abs_add_le _ _).trans ((add_le_add (hb d) (hhw d)).trans (by norm_num))
  simp only [e]
  have e2 : (∑ d : Fin 4, (rnd z d + fsq d 3) * fsq d 5)
      = (((∑ d : Fin 4, (n d + hw d) * basis d : ℤ) : ℝ) : EReal) := by
    simp only [hn, fsq_hw, fsq_basis, Fin.sum_univ_four]
    push_cast; rfl
  rw [word, e2, fptosi_int]
  · simp only [Fin.sum_univ_four, BitVec.ofInt_add, BitVec.ofInt_mul]; rfl
  · have h0 := abs_le.mp (hb 0); have h1 := abs_le.mp (hb 1); have h2 := abs_le.mp (hb 2); have h3 := abs_le.mp (hb 3)
    simp only [Fin.sum_univ_four, hw, basis, Matrix.cons_val_zero, Matrix.cons_val_one, Matrix.cons_val]
    rw [abs_le]; constructor <;> omega

end Cert.Pixel

end
-- ==== Proof.Tower.lean ====
module

public import proofs.«01_k».proof.Proof.Gen.KernelIdeal
public import proofs.«01_k».proof.Proof.Pixel
public import Idealize.ShloMosaic.Lib.MatmulPlain
public import Idealize.ShloMosaic.Lib.Pointwise

@[expose] public section

/-!
The body's arithmetic on a block of `N` lanes, lane by lane: a lane's numbers are those of one pixel.
-/

set_option maxRecDepth 16384

noncomputable section

namespace Cert.Tower

open Cert.KernelIdeal.Gen Cert.KernelIdeal
open Idealize.ShloMosaic Idealize.ShloMosaic.TcCoe Idealize.ShloMosaic.Tactic

variable {N : ℕ}

abbrev Rows (R N : ℕ) : Shape := ⟨2, ![R, N]⟩

/-- The encoder's two products. -/
def encoded (w1 : FVec Ideal S192x27 .bf16) (w2 : FVec Ideal S4x192 .bf16) (a : FVec Ideal (Rows 27 N) .bf16) :
    FVec Ideal (Rows 4 N) .f32 :=
  matmul (DotDims.plain 4 192 N) none w2
    (maximumf (truncf .bf16 (matmul (DotDims.plain 192 27 N) none w1 a (constant (Rows 192 N) .f32 0x00000000#32)) bitsLt_bf16_f32)
      (broadcast (Rows 192 N) (Scalar.ofBits .bf16 0x0000#16)))
    (constant (Rows 4 N) .f32 0x00000000#32)

/-- The rounded codes. -/
def rounded (hb : Shape.Broadcasts S4x1 (Rows 4 N)) (c0 c1 c2 : FVec Ideal S4x1 .f32) (w1 : FVec Ideal S192x27 .bf16) (w2 : FVec Ideal S4x192 .bf16)
    (a : FVec Ideal (Rows 27 N) .bf16) : FVec Ideal (Rows 4 N) .f32 :=
  roundeven (subf (mulf (tanh (addf (encoded w1 w2 a) (broadcastTo (Rows 4 N) c2 hb))) (broadcastTo (Rows 4 N) c0 hb)) (broadcastTo (Rows 4 N) c1 hb))

/-- The decoder's two products, from the scaled codes, times the mask of the image's lanes. -/
def decoded (hb : Shape.Broadcasts S4x1 (Rows 4 N)) (hm : Shape.Broadcasts (Rows 1 N) (Rows 27 N)) (c4 : FVec Ideal S4x1 .f32)
    (wd1 : FVec Ideal S192x4 .bf16) (wd2 : FVec Ideal S27x192 .bf16) (mask : FVec Ideal (Rows 1 N) .f32) (r : FVec Ideal (Rows 4 N) .f32) :
    FVec Ideal (Rows 27 N) .f32 :=
  mulf (matmul (DotDims.plain 27 192 N) none wd2
      (maximumf (truncf .bf16 (matmul (DotDims.plain 192 4 N) none wd1 (truncf .bf16 (mulf r (broadcastTo (Rows 4 N) c4 hb)) bitsLt_bf16_f32)
        (constant (Rows 192 N) .f32 0x00000000#32)) bitsLt_bf16_f32) (broadcast (Rows 192 N) (Scalar.ofBits .bf16 0x0000#16)))
      (constant (Rows 27 N) .f32 0x00000000#32))
    (broadcastTo (Rows 27 N) mask hm)

/-- The index words' sums, as floats. -/
def indexed (hb : Shape.Broadcasts S4x1 (Rows 4 N)) (hr : (Rows 4 N).Reduces [0] ⟨1, ![N]⟩) (c3 c5 : FVec Ideal S4x1 .f32) (r : FVec Ideal (Rows 4 N) .f32) :
    FVec Ideal ⟨1, ![N]⟩ .f32 :=
  multiReduction .add [0] ⟨1, ![N]⟩ (mulf (addf r (broadcastTo (Rows 4 N) c3 hb)) (broadcastTo (Rows 4 N) c5 hb)) 0x00000000#32 hr (.inl rfl) rfl

/-- The weights as functions of two coordinates. -/
abbrev mat {R C : ℕ} (w : (Rows R C).Idx → EReal) (r : Fin R) (c : Fin C) : EReal := w (ix2 r c)

theorem col_apply (hb : Shape.Broadcasts S4x1 (Rows 4 N)) (c : FVec Ideal S4x1 .f32) (d : Fin 4) (l : Fin N) :
    broadcastTo (Rows 4 N) c hb (ix2 d l) = c (ix2 d 0) := by
  pointwise

theorem product_apply {R K : ℕ} {φ₁ φ₂ : FTy} (w : FVec Ideal (Rows R K) φ₁) (x : FVec Ideal (Rows K N) φ₂) (r : Fin R) (l : Fin N) :
    matmul (DotDims.plain R K N) none w x (constant (Rows R N) .f32 0x00000000#32) (ix2 r l) = ∑ k : Fin K, w (ix2 r k) * x (ix2 k l) :=
  (Ideal.matmul_plain_apply none w x _ r l).trans ((congrArg₂ (· + ·) Ideal.ofBits_zero_f32 rfl).trans (zero_add _))

theorem relu_apply (x : FVec Ideal (Rows 192 N) .f32) (k : Fin 192) (l : Fin N) :
    maximumf (truncf .bf16 x bitsLt_bf16_f32) (broadcast (Rows 192 N) (Scalar.ofBits .bf16 0x0000#16)) (ix2 k l) = max (x (ix2 k l)) 0 := by
  pointwise

theorem encoded_apply (w1 : FVec Ideal S192x27 .bf16) (w2 : FVec Ideal S4x192 .bf16) (a : FVec Ideal (Rows 27 N) .bf16) (d : Fin 4) (l : Fin N) :
    encoded w1 w2 a (ix2 d l) = Pixel.enc (mat w1) (mat w2) (fun q => a (ix2 q l)) d := by
  unfold encoded Pixel.enc
  refine (product_apply _ _ _ _).trans (Finset.sum_congr rfl fun k _ => congrArg (_ * ·) ?_)
  exact (relu_apply _ _ _).trans (congrArg (max · 0) (product_apply _ _ _ _))

/-- The columns of the constants' block. -/
structure Columns (c0 c1 c2 c3 c4 c5 : FVec Ideal S4x1 .f32) : Prop where
  half (d : Fin 4) : c0 (ix2 d 0) = Pixel.fsq d 0
  offset (d : Fin 4) : c1 (ix2 d 0) = Pixel.fsq d 1
  shift (d : Fin 4) : c2 (ix2 d 0) = Pixel.fsq d 2
  width (d : Fin 4) : c3 (ix2 d 0) = Pixel.fsq d 3
  inverse (d : Fin 4) : c4 (ix2 d 0) = Pixel.fsq d 4
  basis (d : Fin 4) : c5 (ix2 d 0) = Pixel.fsq d 5

variable {c0 c1 c2 c3 c4 c5 : FVec Ideal S4x1 .f32} (hc : Columns c0 c1 c2 c3 c4 c5)
include hc

theorem rounded_apply (hb : Shape.Broadcasts S4x1 (Rows 4 N)) (w1 : FVec Ideal S192x27 .bf16) (w2 : FVec Ideal S4x192 .bf16)
    (a : FVec Ideal (Rows 27 N) .bf16) (d : Fin 4) (l : Fin N) :
    rounded hb c0 c1 c2 w1 w2 a (ix2 d l) = Pixel.rnd (Pixel.enc (mat w1) (mat w2) fun q => a (ix2 q l)) d := by
  have e : ∀ x : FVec Ideal (Rows 4 N) .f32,
      roundeven (subf (mulf (tanh (addf x (broadcastTo (Rows 4 N) c2 hb))) (broadcastTo (Rows 4 N) c0 hb)) (broadcastTo (Rows 4 N) c1 hb)) (ix2 d l)
        = Ideal.liftRound Ideal.roundHalfEven (Ideal.tanh (x (ix2 d l) + broadcastTo (Rows 4 N) c2 hb (ix2 d l)) * broadcastTo (Rows 4 N) c0 hb (ix2 d l) - broadcastTo (Rows 4 N) c1 hb (ix2 d l)) :=
    fun _ => rfl
  unfold rounded
  rw [e, col_apply, col_apply, col_apply, hc.half, hc.offset, hc.shift, encoded_apply]
  rfl

theorem decoded_apply (hb : Shape.Broadcasts S4x1 (Rows 4 N)) (hm : Shape.Broadcasts (Rows 1 N) (Rows 27 N))
    (wd1 : FVec Ideal S192x4 .bf16) (wd2 : FVec Ideal S27x192 .bf16) (mask : FVec Ideal (Rows 1 N) .f32) (r : FVec Ideal (Rows 4 N) .f32)
    (z : Fin 4 → EReal) (l : Fin N) (hr : ∀ d, r (ix2 d l) = Pixel.rnd z d) (t : Fin 27) :
    decoded hb hm c4 wd1 wd2 mask r (ix2 t l) = Pixel.dec (mat wd1) (mat wd2) z t * mask (ix2 0 l) := by
  have em : broadcastTo (Rows 27 N) mask hm (ix2 t l) = mask (ix2 0 l) := by
    pointwise
    refine congrArg mask (funext fun b => Fin.ext ?_)
    fin_cases b
    · rfl
    · simp only [Shape.Idx.norm]
      rcases eq_or_ne N 1 with rfl | hN
      · simp
      · simp [hN]
  unfold decoded Pixel.dec
  refine congrArg₂ (· * ·) ?_ em
  refine (product_apply _ _ _ _).trans (Finset.sum_congr rfl fun k _ => congrArg (_ * ·) ?_)
  refine (relu_apply _ _ _).trans (congrArg (max · 0) ((product_apply _ _ _ _).trans (Finset.sum_congr rfl fun d _ => congrArg (_ * ·) ?_)))
  exact congrArg₂ (· * ·) (hr d) ((col_apply hb c4 d l).trans (hc.inverse d))

theorem indexed_apply (hb : Shape.Broadcasts S4x1 (Rows 4 N)) (hr : (Rows 4 N).Reduces [0] ⟨1, ![N]⟩) (r : FVec Ideal (Rows 4 N) .f32)
    (z : Fin 4 → EReal) (l : Fin N) (h : ∀ d, r (ix2 d l) = Pixel.rnd z d) :
    indexed hb hr c3 c5 r (ix1 l) = ∑ d : Fin 4, (Pixel.rnd z d + Pixel.fsq d 3) * Pixel.fsq d 5 := by
  unfold indexed
  refine (Ideal.multiReduction_add_single _ _ hr _ _ _).trans (Finset.sum_congr rfl fun (d : Fin 4) _ => ?_)
  have e : hr.lift (ix1 l) d = ix2 d l := by
    funext b; apply Fin.ext; fin_cases b <;> rfl
  rw [e]
  exact congrArg₂ (· * ·) (congrArg₂ (· + ·) (h d) ((col_apply hb c3 d l).trans (hc.width d))) ((col_apply hb c5 d l).trans (hc.basis d))

end Cert.Tower

end
-- ==== Proof.Spec.lean ====
module

public import proofs.«01_k».proof.Proof.Tower

@[expose] public section

/-!
What one grid point writes, from the blocks it reads.

The body works on rows of 256 lanes. Row `yy` (0 to 225) and lane `s` stand for the pixel `(yy - 1, s - 1)` of the
image, so that a border of one pixel is computed too: there the decoder's numbers are replaced by zero.
-/

noncomputable section

namespace Cert.Spec

open Cert.KernelIdeal.Gen Cert.KernelIdeal Cert.Tower
open Idealize.ShloMosaic Idealize.ShloMosaic.TcCoe Idealize.ShloMosaic.Tactic

/-- Input `q` of the window at row `yy` and lane `s`: `q` counts channels, then window rows, then window columns,
    and each window column has its own shifted copy of the image. -/
def patch (x : Fin 3 → Vec Ideal S1x3x234x226 .bf16) (yy : ℕ) (s : Fin 226) (h : yy < 226) (q : Fin 27) : EReal :=
  x ⟨q.val % 3, Nat.mod_lt _ (by decide)⟩ (ix4 (0 : Fin 1) (⟨q.val / 9, by omega⟩ : Fin 3) (⟨yy + q.val % 9 / 3, by omega⟩ : Fin 234) s)

variable (x : Fin 3 → Vec Ideal S1x3x234x226 .bf16) (w1 : Vec Ideal S192x27 .bf16) (w2 : Vec Ideal S4x192 .bf16)
  (wd1 : Vec Ideal S192x4 .bf16) (wd2 : Vec Ideal S27x192 .bf16)

/-- The encoder there. -/
def code (yy : ℕ) (s : Fin 226) (h : yy < 226) : Fin 4 → EReal := Pixel.enc (mat w1) (mat w2) (patch x yy s h)

/-- The decoder's 27 numbers there, zero outside the image. -/
def tap (r : Fin 27) (yy s : ℕ) : EReal :=
  if h : (1 ≤ yy ∧ yy ≤ 224) ∧ 1 ≤ s ∧ s ≤ 224 then Pixel.dec (mat wd1) (mat wd2) (code x w1 w2 yy ⟨s, by omega⟩ (by omega)) r else 0

/-- The decoded image: at each pixel the sum over the nine neighbours of that neighbour's number for it. -/
def decBlk : Vec Ideal S1x3x224x224 .f32 := fun i =>
  let T (ky kx : Fin 3) : EReal :=
    tap x w1 w2 wd1 wd2 ⟨(ky.val * 3 + kx.val) * 3 + (i 1).val, by have := (i 1).isLt; change _ < 3 at this; omega⟩ ((i 2).val + ky.val) ((i 3).val + kx.val)
  T 0 0 + T 0 1 + T 0 2 + T 1 0 + T 1 1 + T 1 2 + T 2 0 + T 2 1 + T 2 2

/-- The index words. -/
def idxBlk : Vec Ideal S1x224x224 .i32 := fun i =>
  Pixel.word (code x w1 w2 ((i 1).val + 1) ⟨(i 2).val + 1, by have := (i 2).isLt; change _ < 224 at this; omega⟩
    (by have := (i 1).isLt; change _ < 224 at this; omega))

end Cert.Spec

end
-- ==== Proof.Rows.lean ====
module

public import proofs.«01_k».proof.Proof.Gen.KernelIdeal
public import Idealize.ShloMosaic.Lib.Pointwise
public import Idealize.ShloMosaic.Lib.Pipeline.ValueKit.Tiles
public import Mathlib.Tactic.FinCases

@[expose] public section

/-!
A row of patches: 27 one-row slices stacked, and zeros up to lane 256.
-/

set_option maxRecDepth 16384

noncomputable section

namespace Cert.Rows

open Cert.KernelIdeal.Gen Cert.KernelIdeal
open Idealize.ShloMosaic Idealize.ShloMosaic.TcCoe Idealize.ShloMosaic.Tactic

/-- The stack of the 27 slices. -/
def stack (f : Fin 27 → FVec Ideal S1x226 .bf16) : FVec Ideal S27x226 .bf16 :=
  concatenate S27x226 0 [⟨S1x226, f 0⟩, ⟨S1x226, f 1⟩, ⟨S1x226, f 2⟩, ⟨S1x226, f 3⟩, ⟨S1x226, f 4⟩, ⟨S1x226, f 5⟩, ⟨S1x226, f 6⟩,
    ⟨S1x226, f 7⟩, ⟨S1x226, f 8⟩, ⟨S1x226, f 9⟩, ⟨S1x226, f 10⟩, ⟨S1x226, f 11⟩, ⟨S1x226, f 12⟩, ⟨S1x226, f 13⟩, ⟨S1x226, f 14⟩,
    ⟨S1x226, f 15⟩, ⟨S1x226, f 16⟩, ⟨S1x226, f 17⟩, ⟨S1x226, f 18⟩, ⟨S1x226, f 19⟩, ⟨S1x226, f 20⟩, ⟨S1x226, f 21⟩, ⟨S1x226, f 22⟩,
    ⟨S1x226, f 23⟩, ⟨S1x226, f 24⟩, ⟨S1x226, f 25⟩, ⟨S1x226, f 26⟩]
    concatenates_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S27x226_d0

/-- The stored row. -/
def patchRow (f : Fin 27 → FVec Ideal S1x226 .bf16) : FVec Ideal S27x256 .bf16 :=
  shapeCast S27x256 (concatenate S27x256 1 [⟨S27x226, stack f⟩, ⟨S27x30, broadcast S27x30 (Scalar.ofBits .bf16 0x0000#16)⟩]
    concatenates_S27x226_S27x30_S27x256_d1) shapeCasts_S27x256_S27x256

theorem stack_apply (f : Fin 27 → FVec Ideal S1x226 .bf16) (q : Fin 27) (s : Fin 226) : stack f (ix2 q s) = f q (ix2 0 s) := by
  refine concatenate_ofFn_unit_eq (s₁ := S1x226) (0 : Fin S27x226.rank) f _ (ix2 q s) _ rfl rfl fun n i hn h0 hb => ?_
  have e : n = q := Fin.ext hn.symm
  subst e
  refine congrArg (f n) (funext fun b => Fin.ext ?_)
  fin_cases b
  · exact h0
  · exact hb 1 (by decide)

theorem patchRow_apply (f : Fin 27 → FVec Ideal S1x226 .bf16) (q : Fin 27) (l : Fin 256) (h : l.val < 226) :
    patchRow f (ix2 q l) = f q (ix2 0 ⟨l, h⟩) := by
  refine Eq.trans ?_ (stack_apply f q ⟨l, h⟩)
  unfold patchRow
  generalize stack f = u
  pointwise [h]

end Cert.Rows

end
-- ==== Proof.Blocks.lean ====
module

public import proofs.«01_k».proof.Proof.Gen.KernelIdeal.Skeleton
public import proofs.«01_k».proof.Proof.Spec
public import proofs.«01_k».proof.Proof.Rows
public import Idealize.ShloMosaic.Lib.Pipeline.FrameBody
public import Idealize.ShloMosaic.Lib.Pipeline.ReadBack

@[expose] public section

/-!
What the scratch arrays hold after a run of stores, the latest store first.
-/

set_option maxRecDepth 16384

noncomputable section

namespace Cert.Blocks

open Cert.KernelIdeal.Gen Cert.KernelIdeal Cert.Tower
open Idealize.ShloMosaic Idealize.ShloMosaic.TcCoe Idealize.ShloMosaic.Tactic

section Latest

variable {κ : Kind} {sp : Space} {s : Shape} {e : EltTy} {Val : EltTy → Type} (v : View sig κ sp s e) (f : v.ty.Contents Val)

/-- Off the latest store, what the earlier ones left. -/
theorem read_miss (p : View.Piece Val s e) (L : List (View.Piece Val s e)) (y : s.Idx) (h : y ∉ p.1.set) :
    v.read Val (v.writes Val f (p :: L)) y = v.read Val (v.writes Val f L) y := by
  have hy : y ∉ Finset.univ.map p.1.emb := by rwa [Rect.map_emb_univ]
  rw [View.writes_cons, View.read_slice_write_of_not_mem p.1 _ _ _ hy]

/-- Under it, what it stored. -/
theorem read_hit {off size : Fin s.rank → ℕ} (inb : ∀ a, off a + size a ≤ s.size a) (w : (Rect.unit off size inb).shape.Idx → Val e)
    (L : List (View.Piece Val s e)) (x : (Rect.unit off size inb).shape.Idx) (y : s.Idx) (h : ∀ a, (y a).val = off a + (x a).val) :
    v.read Val (v.writes Val f (⟨Rect.unit off size inb, w⟩ :: L)) y = w x := by
  have e : y = (Rect.unit off size inb).emb x := funext fun a => Fin.ext ((h a).trans (Rect.idx_unit_val off size inb x a).symm)
  rw [e]
  exact View.read_writes_cons_emb v f _ _ _ _

end Latest

section Grid

variable {κ : Kind} {sp : Space} {R N : ℕ} {e : EltTy} {Val : EltTy → Type} (v : View sig κ sp (Rows R N) e) (f : v.ty.Contents Val)

theorem read_miss2 {r0 b n k : ℕ} (inb : ∀ a, (![r0, b] : Fin 2 → ℕ) a + (![n, k] : Fin 2 → ℕ) a ≤ (Rows R N).size a)
    (w : (Rect.unit (s := Rows R N) ![r0, b] ![n, k] inb).shape.Idx → Val e) (L : List (View.Piece Val (Rows R N) e)) (t : Fin R) (l : Fin N)
    (h : l.val < b ∨ b + k ≤ l.val) :
    v.read Val (v.writes Val f (⟨Rect.unit ![r0, b] ![n, k] inb, w⟩ :: L)) (ix2 t l) = v.read Val (v.writes Val f L) (ix2 t l) := by
  refine read_miss v f _ L _ fun hm => ?_
  have hm' : ix2 t l ∈ (Rect.unit (s := Rows R N) ![r0, b] ![n, k] inb).set := hm
  have h1 : b ≤ l.val ∧ l.val < b + k := (Rect.mem_set_unit.mp hm') (1 : Fin 2)
  omega

theorem read_hit2 {r0 b n k : ℕ} (inb : ∀ a, (![r0, b] : Fin 2 → ℕ) a + (![n, k] : Fin 2 → ℕ) a ≤ (Rows R N).size a)
    (w : (Rect.unit (s := Rows R N) ![r0, b] ![n, k] inb).shape.Idx → Val e) (L : List (View.Piece Val (Rows R N) e)) (t : Fin R) (l : Fin N)
    (t' : Fin n) (l' : Fin k) (ht : t.val = r0 + t'.val) (hl : l.val = b + l'.val) :
    v.read Val (v.writes Val f (⟨Rect.unit ![r0, b] ![n, k] inb, w⟩ :: L)) (ix2 t l) = w (ix2 t' l') := by
  refine read_hit v f inb w L (ix2 t' l') _ fun a => ?_
  match a with
  | ⟨0, _⟩ => exact ht
  | ⟨1, _⟩ => exact hl

/-- A load of a rectangle, from its origin on. -/
theorem cov2 {r0 b n k : ℕ} (inb : ∀ a, (![r0, b] : Fin 2 → ℕ) a + (![n, k] : Fin 2 → ℕ) a ≤ (Rows R N).size a) (t' : Fin n) (l' : Fin k)
    (t : Fin R) (l : Fin N) (ht : t.val = r0 + t'.val) (hl : l.val = b + l'.val) :
    v.readAt Val (Rect.unit (s := Rows R N) ![r0, b] ![n, k] inb).toLoadRect f (ix2 t' l') = v.read Val f (ix2 t l) := by
  rw [View.readAt_apply]
  refine congrArg (v.read Val f) (funext fun a => Fin.ext ((Rect.idx_unit_val _ _ inb (ix2 t' l') a).trans ?_))
  match a with
  | ⟨0, _⟩ => exact ht.symm
  | ⟨1, _⟩ => exact hl.symm

end Grid

/-! ### The patches -/

section Patches

variable {H : ℕ}

/-- Input `q` of the row `r` of a block: one row of one of the nine loaded pieces (channel `q / 9`, copy `q % 3`). -/
def slice (C : Fin 3 → Fin 3 → FVec Ideal (Rows H 226) .bf16) (r : ℕ) (hr : r + 2 < H) (q : Fin 27) : FVec Ideal S1x226 .bf16 :=
  extractStridedSlice S1x226 ![r + q.val % 9 / 3, 0] (C ⟨q.val / 9, by omega⟩ ⟨q.val % 3, by omega⟩)
    ⟨rfl, fun a => by
      match a with
      | ⟨0, _⟩ => change r + q.val % 9 / 3 + 1 ≤ H; omega
      | ⟨1, _⟩ => exact le_rfl⟩

theorem slice_apply (C : Fin 3 → Fin 3 → FVec Ideal (Rows H 226) .bf16) (r : ℕ) (hr : r + 2 < H) (q : Fin 27) (s : Fin 226) :
    slice C r hr q (ix2 0 s) = C ⟨q.val / 9, by omega⟩ ⟨q.val % 3, by omega⟩ (ix2 ⟨r + q.val % 9 / 3, by omega⟩ s) := by
  unfold slice
  generalize C ⟨q.val / 9, by omega⟩ ⟨q.val % 3, by omega⟩ = u
  refine congrArg u (funext fun b => Fin.ext ?_)
  match b with
  | ⟨0, _⟩ => rfl
  | ⟨1, _⟩ => exact Nat.zero_add _

/-- Row `n + k` of a piece. -/
def cut (n : ℕ) (h : n + 2 < H) (k : ℕ) (hk : k < 3) (a : FVec Ideal (Rows H 226) .bf16) : FVec Ideal S1x226 .bf16 :=
  extractStridedSlice S1x226 ![n + k, 0] a
    ⟨rfl, fun a => by
      match a with
      | ⟨0, _⟩ => change n + k + 1 ≤ H; omega
      | ⟨1, _⟩ => exact le_rfl⟩

/-- The stored row of patches, from the nine pieces (channel, copy). -/
def row9 (c00 c01 c02 c10 c11 c12 c20 c21 c22 : FVec Ideal (Rows H 226) .bf16) (n : ℕ) (h : n + 2 < H) : FVec Ideal S27x256 .bf16 :=
  shapeCast S27x256 (concatenate S27x256 1 [⟨S27x226, concatenate S27x226 0 [⟨S1x226, cut n h 0 (by decide) c00⟩, ⟨S1x226, cut n h 0 (by decide) c01⟩, ⟨S1x226, cut n h 0 (by decide) c02⟩, ⟨S1x226, cut n h 1 (by decide) c00⟩, ⟨S1x226, cut n h 1 (by decide) c01⟩, ⟨S1x226, cut n h 1 (by decide) c02⟩, ⟨S1x226, cut n h 2 (by decide) c00⟩, ⟨S1x226, cut n h 2 (by decide) c01⟩, ⟨S1x226, cut n h 2 (by decide) c02⟩, ⟨S1x226, cut n h 0 (by decide) c10⟩, ⟨S1x226, cut n h 0 (by decide) c11⟩, ⟨S1x226, cut n h 0 (by decide) c12⟩, ⟨S1x226, cut n h 1 (by decide) c10⟩, ⟨S1x226, cut n h 1 (by decide) c11⟩, ⟨S1x226, cut n h 1 (by decide) c12⟩, ⟨S1x226, cut n h 2 (by decide) c10⟩, ⟨S1x226, cut n h 2 (by decide) c11⟩, ⟨S1x226, cut n h 2 (by decide) c12⟩, ⟨S1x226, cut n h 0 (by decide) c20⟩, ⟨S1x226, cut n h 0 (by decide) c21⟩, ⟨S1x226, cut n h 0 (by decide) c22⟩, ⟨S1x226, cut n h 1 (by decide) c20⟩, ⟨S1x226, cut n h 1 (by decide) c21⟩, ⟨S1x226, cut n h 1 (by decide) c22⟩, ⟨S1x226, cut n h 2 (by decide) c20⟩, ⟨S1x226, cut n h 2 (by decide) c21⟩, ⟨S1x226, cut n h 2 (by decide) c22⟩]
    concatenates_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S1x226_S27x226_d0⟩, ⟨S27x30, broadcast S27x30 (Scalar.ofBits .bf16 0x0000#16)⟩]
    concatenates_S27x226_S27x30_S27x256_d1) shapeCasts_S27x256_S27x256

theorem row9_apply (c00 c01 c02 c10 c11 c12 c20 c21 c22 : FVec Ideal (Rows H 226) .bf16) (n : ℕ) (h : n + 2 < H) (q : Fin 27) (l : Fin 256) (hl : l.val < 226) :
    row9 c00 c01 c02 c10 c11 c12 c20 c21 c22 n h (ix2 q l)
      = (![![c00, c01, c02], ![c10, c11, c12], ![c20, c21, c22]] : Fin 3 → Fin 3 → FVec Ideal (Rows H 226) .bf16) ⟨q.val / 9, by omega⟩ ⟨q.val % 3, by omega⟩
        (ix2 ⟨n + q.val % 9 / 3, by omega⟩ ⟨l.val, hl⟩) :=
  (Cert.Rows.patchRow_apply (slice ![![c00, c01, c02], ![c10, c11, c12], ![c20, c21, c22]] n h) q l hl).trans (slice_apply _ n h q ⟨l.val, hl⟩)

/-- The stores of the first `n` rows of a block, over the earlier ones. -/
def rowsTo (P : (m : ℕ) → m + 2 < H → FVec Ideal S27x256 .bf16) (rest : List (View.Piece (Elt Ideal) S27x4096 .bf16)) :
    (n : ℕ) → n ≤ 16 → n + 1 < H → List (View.Piece (Elt Ideal) S27x4096 .bf16)
  | 0, _, _ => rest
  | n + 1, h, h' => ⟨Rect.unit ![0, 256 * n] S27x256.size fun a => by
      match a with
      | ⟨0, _⟩ => exact le_rfl
      | ⟨1, _⟩ => change 256 * n + 256 ≤ 4096; omega, P n (by omega)⟩ :: rowsTo P rest n (by omega) (by omega)

theorem rowsTo_succ (P : (m : ℕ) → m + 2 < H → FVec Ideal S27x256 .bf16) (rest : List (View.Piece (Elt Ideal) S27x4096 .bf16)) (n : ℕ) (h : n + 1 ≤ 16)
    (h' : n + 1 + 1 < H) (inb) (w : FVec Ideal S27x256 .bf16) (L : List (View.Piece (Elt Ideal) S27x4096 .bf16)) (hw : w = P n (by omega))
    (hL : rowsTo P rest n (by omega) (by omega) = L) :
    rowsTo P rest (n + 1) h h' = ⟨Rect.unit ![0, 256 * n] S27x256.size inb, w⟩ :: L := by subst hw hL; rfl

theorem rowsTo_read {κ : Kind} {sp : Space} (v : View sig κ sp S27x4096 .bf16) (f : v.ty.Contents (Elt Ideal))
    (P : (m : ℕ) → m + 2 < H → FVec Ideal S27x256 .bf16) (rest : List (View.Piece (Elt Ideal) S27x4096 .bf16)) (q : Fin 27) (l : Fin 4096) :
    ∀ (n : ℕ) (h : n ≤ 16) (h' : n + 1 < H) (hl : l.val < 256 * n), v.read (Elt Ideal) (v.writes (Elt Ideal) f (rowsTo P rest n h h')) (ix2 q l)
      = P (l.val / 256) (by omega) (ix2 q ⟨l.val % 256, Nat.mod_lt _ (by decide)⟩)
  | 0, _, _, hl => by omega
  | n + 1, h, h', hl => by
    unfold rowsTo
    by_cases hn : 256 * n ≤ l.val
    · refine (read_hit2 v f _ _ _ q l q ⟨l.val - 256 * n, by omega⟩ (Nat.zero_add _).symm (by dsimp only; omega)).trans ?_
      have e : l.val / 256 = n := by omega
      subst e
      exact congrArg (fun j => P _ _ (ix2 q j)) (Fin.ext (by dsimp only; omega))
    · refine (read_miss2 v f _ _ _ q l (Or.inl (by omega))).trans ?_
      exact rowsTo_read v f P rest q l n (by omega) (by omega) (by omega)

/-- A loaded piece of an image copy: `H` rows of one channel. -/
def chunk (A : Memref sig .tc .vmem S1x3x234x226 .bf16) (hA : A.IsWhole) (X : Vec Ideal S1x3x234x226 .bf16) (off : Fin 4 → ℕ)
    (inb : ∀ a, off a + (⟨4, ![1, 1, H, 226]⟩ : Shape).size a ≤ S1x3x234x226.size a) (hc : (⟨4, ![1, 1, H, 226]⟩ : Shape).ShapeCasts (Rows H 226)) :
    FVec Ideal (Rows H 226) .bf16 :=
  shapeCast (Rows H 226) (A.view.readAt (Elt Ideal) (Rect.unit (s := S1x3x234x226) off (⟨4, ![1, 1, H, 226]⟩ : Shape).size inb).toLoadRect (hA.unread X)) hc

/-- Its entries: the image rows from the one it was loaded at. -/
theorem chunk_apply (A : Memref sig .tc .vmem S1x3x234x226 .bf16) (hA : A.IsWhole) (X : Vec Ideal S1x3x234x226 .bf16) (off : Fin 4 → ℕ)
    (inb : ∀ a, off a + (⟨4, ![1, 1, H, 226]⟩ : Shape).size a ≤ S1x3x234x226.size a) (hc : (⟨4, ![1, 1, H, 226]⟩ : Shape).ShapeCasts (Rows H 226))
    (ch : Fin 3) (n : ℕ) (ho : off = ![0, ch.val, n, 0]) (r : Fin H) (s : Fin 226) (hr : n + r.val < 234) :
    chunk A hA X off inb hc (ix2 r s) = X (ix4 0 ch ⟨n + r.val, hr⟩ s) := by
  subst ho
  unfold chunk
  refine (shapeCast_apply _ hc (ix2 r s) (ix4 0 0 r s) ?_).trans ?_
  · refine (Shape.rowMajor_val_four _).trans (Eq.trans ?_ (Shape.rowMajor_val_two _).symm)
    change ((0 * 1 + 0) * H + r.val) * 226 + s.val = r.val * 226 + s.val
    simp
  · rw [View.readAt_apply, hA.read_unread]
    refine congrArg X (funext fun a => Fin.ext ?_)
    refine (Rect.idx_unit_val _ _ _ _ _).trans ?_
    match a with
    | ⟨0, _⟩ => rfl
    | ⟨1, _⟩ => rfl
    | ⟨2, _⟩ => rfl
    | ⟨3, _⟩ => exact Nat.zero_add _

end Patches

end Cert.Blocks

end
-- ==== Proof.Patches.lean ====
module

public import proofs.«01_k».proof.Proof.BodyRun
public import proofs.«01_k».proof.Proof.Blocks

@[expose] public section

/-!
The patches that the body stores and loads back: fourteen blocks of sixteen rows, and a last one of two.
-/

set_option maxRecDepth 65536

noncomputable section

namespace Cert.KernelIdeal.Body

open Cert.KernelIdeal.Gen Cert.KernelIdeal Cert.Tower Cert.Blocks
open Idealize.ShloMosaic Idealize.ShloMosaic.TcCoe Idealize.ShloMosaic.Tactic

variable (c : Dev nD) (i : grid0.Coords)
  (arg2 : Memref sig .tc .vmem S1x3x234x226 .bf16) (harg2 : arg2.IsWhole) (arg3 : Memref sig .tc .vmem S1x3x234x226 .bf16) (harg3 : arg3.IsWhole)
  (arg4 : Memref sig .tc .vmem S1x3x234x226 .bf16) (harg4 : arg4.IsWhole) (arg13 : Memref sig .tc .vmem S27x4096 .bf16)
  (x0 x1 x2 : Vec Ideal S1x3x234x226 .bf16)

/-- Row `m` of block `k`, whose pieces start at image row `n = 16 k`. -/
def piecesRow (n : BitVec 32) (k : Fin 14) (hn : BitVec.ofNat 32 (16 * k.val) = n) (m : ℕ) (hm : m + 2 < 24) : FVec Ideal S27x256 .bf16 :=
  row9 (chunk arg2 harg2 x0 (k0_off1 i n) (hn ▸ k0_off1_inb i k) shapeCasts_S1x1x24x226_S24x226) (chunk arg3 harg3 x1 (k0_off1 i n) (hn ▸ k0_off1_inb i k) shapeCasts_S1x1x24x226_S24x226) (chunk arg4 harg4 x2 (k0_off1 i n) (hn ▸ k0_off1_inb i k) shapeCasts_S1x1x24x226_S24x226)
    (chunk arg2 harg2 x0 (k0_off2 i n) (hn ▸ k0_off2_inb i k) shapeCasts_S1x1x24x226_S24x226) (chunk arg3 harg3 x1 (k0_off2 i n) (hn ▸ k0_off2_inb i k) shapeCasts_S1x1x24x226_S24x226) (chunk arg4 harg4 x2 (k0_off2 i n) (hn ▸ k0_off2_inb i k) shapeCasts_S1x1x24x226_S24x226)
    (chunk arg2 harg2 x0 (k0_off3 i n) (hn ▸ k0_off3_inb i k) shapeCasts_S1x1x24x226_S24x226) (chunk arg3 harg3 x1 (k0_off3 i n) (hn ▸ k0_off3_inb i k) shapeCasts_S1x1x24x226_S24x226) (chunk arg4 harg4 x2 (k0_off3 i n) (hn ▸ k0_off3_inb i k) shapeCasts_S1x1x24x226_S24x226) m hm

/-- Row `m` of the last block. -/
def lastRow (m : ℕ) (hm : m + 2 < 10) : FVec Ideal S27x256 .bf16 :=
  row9 (chunk arg2 harg2 x0 (k0_off4 i) (k0_off4_inb i) shapeCasts_S1x1x10x226_S10x226) (chunk arg3 harg3 x1 (k0_off4 i) (k0_off4_inb i) shapeCasts_S1x1x10x226_S10x226) (chunk arg4 harg4 x2 (k0_off4 i) (k0_off4_inb i) shapeCasts_S1x1x10x226_S10x226)
    (chunk arg2 harg2 x0 (k0_off5 i) (k0_off5_inb i) shapeCasts_S1x1x10x226_S10x226) (chunk arg3 harg3 x1 (k0_off5 i) (k0_off5_inb i) shapeCasts_S1x1x10x226_S10x226) (chunk arg4 harg4 x2 (k0_off5 i) (k0_off5_inb i) shapeCasts_S1x1x10x226_S10x226)
    (chunk arg2 harg2 x0 (k0_off6 i) (k0_off6_inb i) shapeCasts_S1x1x10x226_S10x226) (chunk arg3 harg3 x1 (k0_off6 i) (k0_off6_inb i) shapeCasts_S1x1x10x226_S10x226) (chunk arg4 harg4 x2 (k0_off6 i) (k0_off6_inb i) shapeCasts_S1x1x10x226_S10x226) m hm

/-- The stores up to the end of each block. -/
def after : Fin 14 → List (View.Piece (Elt Ideal) S27x4096 .bf16) :=
  ![run.sl.HS1_17 c i arg2 harg2 arg3 harg3 arg4 harg4 x0 x1 x2, run.sl.HS1_33 c i arg2 harg2 arg3 harg3 arg4 harg4 x0 x1 x2, run.sl.HS1_49 c i arg2 harg2 arg3 harg3 arg4 harg4 x0 x1 x2, run.sl.HS1_65 c i arg2 harg2 arg3 harg3 arg4 harg4 x0 x1 x2, run.sl.HS1_81 c i arg2 harg2 arg3 harg3 arg4 harg4 x0 x1 x2, run.sl.HS1_97 c i arg2 harg2 arg3 harg3 arg4 harg4 x0 x1 x2, run.sl.HS1_113 c i arg2 harg2 arg3 harg3 arg4 harg4 x0 x1 x2, run.sl.HS1_129 c i arg2 harg2 arg3 harg3 arg4 harg4 x0 x1 x2, run.sl.HS1_145 c i arg2 harg2 arg3 harg3 arg4 harg4 x0 x1 x2, run.sl.HS1_161 c i arg2 harg2 arg3 harg3 arg4 harg4 x0 x1 x2, run.sl.HS1_177 c i arg2 harg2 arg3 harg3 arg4 harg4 x0 x1 x2, run.sl.HS1_193 c i arg2 harg2 arg3 harg3 arg4 harg4 x0 x1 x2, run.sl.HS1_209 c i arg2 harg2 arg3 harg3 arg4 harg4 x0 x1 x2, run.sl.HS1_225 c i arg2 harg2 arg3 harg3 arg4 harg4 x0 x1 x2]

/-- The stores before each block. -/
def before : Fin 14 → List (View.Piece (Elt Ideal) S27x4096 .bf16) :=
  ![run.sl.HS1_1, run.sl.HS1_17 c i arg2 harg2 arg3 harg3 arg4 harg4 x0 x1 x2, run.sl.HS1_33 c i arg2 harg2 arg3 harg3 arg4 harg4 x0 x1 x2, run.sl.HS1_49 c i arg2 harg2 arg3 harg3 arg4 harg4 x0 x1 x2, run.sl.HS1_65 c i arg2 harg2 arg3 harg3 arg4 harg4 x0 x1 x2, run.sl.HS1_81 c i arg2 harg2 arg3 harg3 arg4 harg4 x0 x1 x2, run.sl.HS1_97 c i arg2 harg2 arg3 harg3 arg4 harg4 x0 x1 x2, run.sl.HS1_113 c i arg2 harg2 arg3 harg3 arg4 harg4 x0 x1 x2, run.sl.HS1_129 c i arg2 harg2 arg3 harg3 arg4 harg4 x0 x1 x2, run.sl.HS1_145 c i arg2 harg2 arg3 harg3 arg4 harg4 x0 x1 x2, run.sl.HS1_161 c i arg2 harg2 arg3 harg3 arg4 harg4 x0 x1 x2, run.sl.HS1_177 c i arg2 harg2 arg3 harg3 arg4 harg4 x0 x1 x2, run.sl.HS1_193 c i arg2 harg2 arg3 harg3 arg4 harg4 x0 x1 x2, run.sl.HS1_209 c i arg2 harg2 arg3 harg3 arg4 harg4 x0 x1 x2]

set_option maxHeartbeats 4000000 in
theorem after_eq (k : Fin 14) : rowsTo (piecesRow i arg2 harg2 arg3 harg3 arg4 harg4 x0 x1 x2 (BitVec.ofNat 32 (16 * k.val)) k rfl) (before c i arg2 harg2 arg3 harg3 arg4 harg4 x0 x1 x2 k) 16 (by decide) (by decide)
    = after c i arg2 harg2 arg3 harg3 arg4 harg4 x0 x1 x2 k := by
  fin_cases k <;> (iterate 16 (refine rowsTo_succ _ _ _ _ _ _ _ _ ?_ ?_; · rfl)) <;> rfl

set_option maxHeartbeats 1000000 in
/-- The nine pieces of block `k`. -/
theorem piece_apply (n : BitVec 32) (k : Fin 14) (hn : BitVec.ofNat 32 (16 * k.val) = n) (ch j : Fin 3) (r : Fin 24) (s : Fin 226) :
    (![![chunk arg2 harg2 x0 (k0_off1 i n) (hn ▸ k0_off1_inb i k) shapeCasts_S1x1x24x226_S24x226, chunk arg3 harg3 x1 (k0_off1 i n) (hn ▸ k0_off1_inb i k) shapeCasts_S1x1x24x226_S24x226, chunk arg4 harg4 x2 (k0_off1 i n) (hn ▸ k0_off1_inb i k) shapeCasts_S1x1x24x226_S24x226],
    ![chunk arg2 harg2 x0 (k0_off2 i n) (hn ▸ k0_off2_inb i k) shapeCasts_S1x1x24x226_S24x226, chunk arg3 harg3 x1 (k0_off2 i n) (hn ▸ k0_off2_inb i k) shapeCasts_S1x1x24x226_S24x226, chunk arg4 harg4 x2 (k0_off2 i n) (hn ▸ k0_off2_inb i k) shapeCasts_S1x1x24x226_S24x226],
    ![chunk arg2 harg2 x0 (k0_off3 i n) (hn ▸ k0_off3_inb i k) shapeCasts_S1x1x24x226_S24x226, chunk arg3 harg3 x1 (k0_off3 i n) (hn ▸ k0_off3_inb i k) shapeCasts_S1x1x24x226_S24x226, chunk arg4 harg4 x2 (k0_off3 i n) (hn ▸ k0_off3_inb i k) shapeCasts_S1x1x24x226_S24x226]] : Fin 3 → Fin 3 → FVec Ideal (Rows 24 226) .bf16) ch j (ix2 r s)
      = (![x0, x1, x2] : Fin 3 → Vec Ideal S1x3x234x226 .bf16) j (ix4 0 ch ⟨16 * k.val + r.val, by omega⟩ s) := by
  subst hn
  have h1 : (i 1).val = 0 := by have := (i 1).isLt; change _ < 1 at this; omega
  have e1 := k0_off1_eq i k
  have e2 := k0_off2_eq i k
  have e3 := k0_off3_eq i k
  rw [h1, Nat.mul_zero, Nat.zero_add] at e1 e2 e3
  fin_cases ch <;> fin_cases j
  · exact chunk_apply arg2 harg2 x0 _ _ _ 0 _ e1 r s _
  · exact chunk_apply arg3 harg3 x1 _ _ _ 0 _ e1 r s _
  · exact chunk_apply arg4 harg4 x2 _ _ _ 0 _ e1 r s _
  · exact chunk_apply arg2 harg2 x0 _ _ _ 1 _ e2 r s _
  · exact chunk_apply arg3 harg3 x1 _ _ _ 1 _ e2 r s _
  · exact chunk_apply arg4 harg4 x2 _ _ _ 1 _ e2 r s _
  · exact chunk_apply arg2 harg2 x0 _ _ _ 2 _ e3 r s _
  · exact chunk_apply arg3 harg3 x1 _ _ _ 2 _ e3 r s _
  · exact chunk_apply arg4 harg4 x2 _ _ _ 2 _ e3 r s _

theorem piecesRow_apply (n : BitVec 32) (k : Fin 14) (hn : BitVec.ofNat 32 (16 * k.val) = n) (m : ℕ) (hm : m < 16) (q : Fin 27) (l : Fin 256) (hl : l.val < 226) :
    piecesRow i arg2 harg2 arg3 harg3 arg4 harg4 x0 x1 x2 n k hn m (by omega) (ix2 q l) = Spec.patch ![x0, x1, x2] (16 * k.val + m) ⟨l.val, hl⟩ (by omega) q := by
  refine (row9_apply _ _ _ _ _ _ _ _ _ m _ q l hl).trans ?_
  refine (piece_apply i arg2 harg2 arg3 harg3 arg4 harg4 x0 x1 x2 n k hn ⟨q.val / 9, by omega⟩ ⟨q.val % 3, by omega⟩ ⟨m + q.val % 9 / 3, by omega⟩ ⟨l.val, hl⟩).trans ?_
  unfold Spec.patch
  refine congrArg (fun y => (![x0, x1, x2] : Fin 3 → Vec Ideal S1x3x234x226 .bf16) _ (ix4 0 _ y _)) (Fin.ext ?_)
  dsimp only
  omega

set_option maxHeartbeats 1000000 in
/-- The nine pieces of the last block. -/
theorem lastPiece_apply (ch j : Fin 3) (r : Fin 10) (s : Fin 226) :
    (![![chunk arg2 harg2 x0 (k0_off4 i) (k0_off4_inb i) shapeCasts_S1x1x10x226_S10x226, chunk arg3 harg3 x1 (k0_off4 i) (k0_off4_inb i) shapeCasts_S1x1x10x226_S10x226, chunk arg4 harg4 x2 (k0_off4 i) (k0_off4_inb i) shapeCasts_S1x1x10x226_S10x226],
    ![chunk arg2 harg2 x0 (k0_off5 i) (k0_off5_inb i) shapeCasts_S1x1x10x226_S10x226, chunk arg3 harg3 x1 (k0_off5 i) (k0_off5_inb i) shapeCasts_S1x1x10x226_S10x226, chunk arg4 harg4 x2 (k0_off5 i) (k0_off5_inb i) shapeCasts_S1x1x10x226_S10x226],
    ![chunk arg2 harg2 x0 (k0_off6 i) (k0_off6_inb i) shapeCasts_S1x1x10x226_S10x226, chunk arg3 harg3 x1 (k0_off6 i) (k0_off6_inb i) shapeCasts_S1x1x10x226_S10x226, chunk arg4 harg4 x2 (k0_off6 i) (k0_off6_inb i) shapeCasts_S1x1x10x226_S10x226]] : Fin 3 → Fin 3 → FVec Ideal (Rows 10 226) .bf16) ch j (ix2 r s)
      = (![x0, x1, x2] : Fin 3 → Vec Ideal S1x3x234x226 .bf16) j (ix4 0 ch ⟨224 + r.val, by omega⟩ s) := by
  have h1 : (i 1).val = 0 := by have := (i 1).isLt; change _ < 1 at this; omega
  have e1 := k0_off4_eq i
  have e2 := k0_off5_eq i
  have e3 := k0_off6_eq i
  rw [h1, Nat.mul_zero, Nat.zero_add] at e1 e2 e3
  fin_cases ch <;> fin_cases j
  · exact chunk_apply arg2 harg2 x0 _ _ _ 0 _ e1 r s _
  · exact chunk_apply arg3 harg3 x1 _ _ _ 0 _ e1 r s _
  · exact chunk_apply arg4 harg4 x2 _ _ _ 0 _ e1 r s _
  · exact chunk_apply arg2 harg2 x0 _ _ _ 1 _ e2 r s _
  · exact chunk_apply arg3 harg3 x1 _ _ _ 1 _ e2 r s _
  · exact chunk_apply arg4 harg4 x2 _ _ _ 1 _ e2 r s _
  · exact chunk_apply arg2 harg2 x0 _ _ _ 2 _ e3 r s _
  · exact chunk_apply arg3 harg3 x1 _ _ _ 2 _ e3 r s _
  · exact chunk_apply arg4 harg4 x2 _ _ _ 2 _ e3 r s _

theorem lastRow_apply (m : ℕ) (hm : m < 2) (q : Fin 27) (l : Fin 256) (hl : l.val < 226) :
    lastRow i arg2 harg2 arg3 harg3 arg4 harg4 x0 x1 x2 m (by omega) (ix2 q l) = Spec.patch ![x0, x1, x2] (224 + m) ⟨l.val, hl⟩ (by omega) q := by
  refine (row9_apply _ _ _ _ _ _ _ _ _ m _ q l hl).trans ?_
  refine (lastPiece_apply i arg2 harg2 arg3 harg3 arg4 harg4 x0 x1 x2 ⟨q.val / 9, by omega⟩ ⟨q.val % 3, by omega⟩ ⟨m + q.val % 9 / 3, by omega⟩ ⟨l.val, hl⟩).trans ?_
  unfold Spec.patch
  refine congrArg (fun y => (![x0, x1, x2] : Fin 3 → Vec Ideal S1x3x234x226 .bf16) _ (ix4 0 _ y _)) (Fin.ext ?_)
  dsimp only
  omega

/-- What each block loads back. -/
def loaded : Fin 14 → FVec Ideal S27x4096 .bf16 :=
  ![run.sl.v323 c i arg2 harg2 arg3 harg3 arg4 harg4 arg13 x0 x1 x2, run.sl.v714 c i arg2 harg2 arg3 harg3 arg4 harg4 arg13 x0 x1 x2, run.sl.v1109 c i arg2 harg2 arg3 harg3 arg4 harg4 arg13 x0 x1 x2, run.sl.v1504 c i arg2 harg2 arg3 harg3 arg4 harg4 arg13 x0 x1 x2, run.sl.v1899 c i arg2 harg2 arg3 harg3 arg4 harg4 arg13 x0 x1 x2, run.sl.v2294 c i arg2 harg2 arg3 harg3 arg4 harg4 arg13 x0 x1 x2, run.sl.v2689 c i arg2 harg2 arg3 harg3 arg4 harg4 arg13 x0 x1 x2, run.sl.v3084 c i arg2 harg2 arg3 harg3 arg4 harg4 arg13 x0 x1 x2, run.sl.v3479 c i arg2 harg2 arg3 harg3 arg4 harg4 arg13 x0 x1 x2, run.sl.v3874 c i arg2 harg2 arg3 harg3 arg4 harg4 arg13 x0 x1 x2, run.sl.v4269 c i arg2 harg2 arg3 harg3 arg4 harg4 arg13 x0 x1 x2, run.sl.v4664 c i arg2 harg2 arg3 harg3 arg4 harg4 arg13 x0 x1 x2, run.sl.v5059 c i arg2 harg2 arg3 harg3 arg4 harg4 arg13 x0 x1 x2, run.sl.v5454 c i arg2 harg2 arg3 harg3 arg4 harg4 arg13 x0 x1 x2]

theorem loaded_apply (k : Fin 14) (q : Fin 27) (l : Fin 4096) (hl : l.val % 256 < 226) :
    loaded c i arg2 harg2 arg3 harg3 arg4 harg4 arg13 x0 x1 x2 k (ix2 q l) = Spec.patch ![x0, x1, x2] (16 * k.val + l.val / 256) ⟨l.val % 256, hl⟩ (by omega) q := by
  have e : loaded c i arg2 harg2 arg3 harg3 arg4 harg4 arg13 x0 x1 x2 k = arg13.view.readCov (Val := Elt Ideal) (after c i arg2 harg2 arg3 harg3 arg4 harg4 x0 x1 x2 k) (Rect.unit (s := S27x4096) ![0, 0] S27x4096.size Gen.inb_S27x4096_S27x4096_0_0).toLoadRect := by
    fin_cases k <;> rfl
  rw [e, ← after_eq]
  refine (cov2 arg13.view _ _ q l q l (Nat.zero_add _).symm (Nat.zero_add _).symm).trans ?_
  refine (rowsTo_read arg13.view _ _ _ q l 16 _ _ (by omega)).trans ?_
  exact piecesRow_apply i arg2 harg2 arg3 harg3 arg4 harg4 x0 x1 x2 _ k rfl _ (by omega) q _ hl

theorem last_apply (q : Fin 27) (l : Fin 512) (hl : l.val % 256 < 226) :
    @Eq EReal (run.sl.v5639 (F := Ideal) c i arg2 harg2 arg3 harg3 arg4 harg4 arg13 x0 x1 x2 (ix2 q l)) (Spec.patch ![x0, x1, x2] (224 + l.val / 256) ⟨l.val % 256, hl⟩ (by omega) q) := by
  have e : rowsTo (lastRow i arg2 harg2 arg3 harg3 arg4 harg4 x0 x1 x2) (run.sl.HS1_225 (F := Ideal) c i arg2 harg2 arg3 harg3 arg4 harg4 x0 x1 x2) 2 (by decide) (by decide) = run.sl.HS1_227 c i arg2 harg2 arg3 harg3 arg4 harg4 x0 x1 x2 := by
    iterate 2 (refine rowsTo_succ _ _ _ _ _ _ _ _ ?_ ?_; · rfl)
    rfl
  have e' : run.sl.v5639 (F := Ideal) c i arg2 harg2 arg3 harg3 arg4 harg4 arg13 x0 x1 x2 = arg13.view.readCov (Val := Elt Ideal) (run.sl.HS1_227 c i arg2 harg2 arg3 harg3 arg4 harg4 x0 x1 x2) (Rect.unit (s := S27x4096) ![0, 0] S27x512.size Gen.inb_S27x4096_S27x512_0_0).toLoadRect := rfl
  rw [e', ← e]
  refine (cov2 arg13.view _ _ q l q ⟨l.val, by omega⟩ (Nat.zero_add _).symm (Nat.zero_add _).symm).trans ?_
  refine (rowsTo_read arg13.view _ _ _ q _ 2 _ _ (by dsimp only; omega)).trans ?_
  exact lastRow_apply i arg2 harg2 arg3 harg3 arg4 harg4 x0 x1 x2 _ (by dsimp only; omega) q _ hl

end Cert.KernelIdeal.Body

end
-- ==== Proof.Taps.lean ====
module

public import proofs.«01_k».proof.Proof.Patches

@[expose] public section

/-!
The decoder's numbers that the body stores: fourteen blocks of sixteen rows, a last one of two, and the zero rows above and below the image.
-/

set_option maxRecDepth 65536

noncomputable section

namespace Cert.KernelIdeal.Body

open Cert.KernelIdeal.Gen Cert.KernelIdeal Cert.Tower Cert.Blocks
open Idealize.ShloMosaic Idealize.ShloMosaic.TcCoe Idealize.ShloMosaic.Tactic

variable (c : Dev nD) (i : grid0.Coords)
  (arg2 : Memref sig .tc .vmem S1x3x234x226 .bf16) (harg2 : arg2.IsWhole) (arg3 : Memref sig .tc .vmem S1x3x234x226 .bf16) (harg3 : arg3.IsWhole)
  (arg4 : Memref sig .tc .vmem S1x3x234x226 .bf16) (harg4 : arg4.IsWhole) (arg5 : Memref sig .tc .vmem S192x27 .bf16) (harg5 : arg5.IsWhole)
  (arg6 : Memref sig .tc .vmem S4x192 .bf16) (harg6 : arg6.IsWhole) (arg7 : Memref sig .tc .vmem S192x4 .bf16) (harg7 : arg7.IsWhole)
  (arg8 : Memref sig .tc .vmem S27x192 .bf16) (harg8 : arg8.IsWhole) (arg9 : Memref sig .tc .vmem S4x6 .f32) (harg9 : arg9.IsWhole)
  (arg12 : Memref sig .tc .vmem S27x58112 .f32) (arg13 : Memref sig .tc .vmem S27x4096 .bf16)
  (x0 x1 x2 : Vec Ideal S1x3x234x226 .bf16) (x3 : Vec Ideal S192x27 .bf16) (x4 : Vec Ideal S4x192 .bf16) (x5 : Vec Ideal S192x4 .bf16)
  (x6 : Vec Ideal S27x192 .bf16) (x7 : Vec Ideal S4x6 .f32)

/-- A load of a whole block is what it holds. -/
theorem whole_apply {R N : ℕ} {e : EltTy} (A : Memref sig .tc .vmem (Rows R N) e) (hA : A.IsWhole) (X : Vec Ideal (Rows R N) e)
    (inb : ∀ a, (![0, 0] : Fin 2 → ℕ) a + (![R, N] : Fin 2 → ℕ) a ≤ (Rows R N).size a) (hc : (Rows R N).ShapeCasts (Rows R N)) :
    shapeCast (Rows R N) (A.view.readAt (Elt Ideal) (Rect.unit (s := Rows R N) ![0, 0] ![R, N] inb).toLoadRect (hA.unread X)) hc = X := by
  funext y
  refine (shapeCast_apply _ hc y y rfl).trans ?_
  obtain ⟨a, b, rfl⟩ : ∃ a b, y = ix2 a b := ⟨y 0, y 1, funext fun a => by fin_cases a <;> rfl⟩
  refine (cov2 A.view _ inb a b a b (Nat.zero_add _).symm (Nat.zero_add _).symm).trans ?_
  rw [hA.read_unread]

theorem w1_eq : (run.sl.v7 c arg5 harg5 x3 : FVec Ideal S192x27 .bf16) = x3 := whole_apply arg5 harg5 x3 _ _
theorem w2_eq : (run.sl.v9 c arg6 harg6 x4 : FVec Ideal S4x192 .bf16) = x4 := whole_apply arg6 harg6 x4 _ _
theorem wd1_eq : (run.sl.v11 c arg7 harg7 x5 : FVec Ideal S192x4 .bf16) = x5 := whole_apply arg7 harg7 x5 _ _
theorem wd2_eq : (run.sl.v13 c arg8 harg8 x6 : FVec Ideal S27x192 .bf16) = x6 := whole_apply arg8 harg8 x6 _ _

/-- The six loaded columns are those of the constants' block. -/
theorem columns (h7 : ∀ (d : Fin 4) (j : Fin 6), x7 (ix2 d j) = Pixel.fsq d j) :
    Columns (run.sl.v0 c arg9 harg9 x7) (run.sl.v1 c arg9 harg9 x7) (run.sl.v2 c arg9 harg9 x7) (run.sl.v3 c arg9 harg9 x7)
      (run.sl.v4 c arg9 harg9 x7) (run.sl.v5 c arg9 harg9 x7) := by
  have h (j : Fin 6) (inb : ∀ a, (![0, j.val] : Fin 2 → ℕ) a + S4x1.size a ≤ S4x6.size a) (d : Fin 4) :
      (arg9.view.readAt (Elt Ideal) (Rect.unit (s := S4x6) ![0, j.val] S4x1.size inb).toLoadRect (harg9.unread x7) : FVec Ideal S4x1 .f32) (ix2 d 0) = Pixel.fsq d j := by
    refine (cov2 arg9.view _ inb d (0 : Fin 1) d j (Nat.zero_add _).symm rfl).trans ?_
    rw [harg9.read_unread]
    exact h7 d j
  exact ⟨h 0 _, h 1 _, h 2 _, h 3 _, h 4 _, h 5 _⟩

/-- The mask's words. -/
def maskWord (l : ℕ) : BitVec 32 :=
  (IntOp.andi (IntOp.cmpi .sge (IntOp.andi (BitVec.ofNat 32 l) 255#32) 1#32) (IntOp.cmpi .slt (IntOp.andi (BitVec.ofNat 32 l) 255#32) 225#32)).setWidth 32

theorem maskWord_eq : ∀ l : Fin 4096, maskWord l.val = if 1 ≤ l.val % 256 ∧ l.val % 256 ≤ 224 then 1#32 else 0#32 := by decide +kernel

/-- The mask is one at the image's lanes and zero beside them. -/
theorem mask_apply (l : Fin 4096) : @Eq EReal (k0_pay6 (F := Ideal) (ix2 0 l)) (if 1 ≤ l.val % 256 ∧ l.val % 256 ≤ 224 then 1 else 0) := by
  have e : @Eq EReal (k0_pay6 (F := Ideal) (ix2 0 l)) (((maskWord (0 * 4096 + l.val)).toInt : ℝ) : EReal) := rfl
  rw [e, Nat.zero_mul, Nat.zero_add, maskWord_eq]
  split
  · norm_num
  · norm_num

/-- One lane of the decoder's numbers. -/
theorem decoded_tap {N : ℕ} (hb : Shape.Broadcasts S4x1 (Rows 4 N)) (hm : Shape.Broadcasts (Rows 1 N) (Rows 27 N))
    {c0 c1 c2 c3 c4 c5 : FVec Ideal S4x1 .f32} (hc : Columns c0 c1 c2 c3 c4 c5) (X : Fin 3 → Vec Ideal S1x3x234x226 .bf16)
    (mask : FVec Ideal (Rows 1 N) .f32) (a : FVec Ideal (Rows 27 N) .bf16) (t : Fin 27) (l : Fin N) (yy s : ℕ) (hy : 1 ≤ yy ∧ yy ≤ 224)
    (hs : mask (ix2 0 l) = if 1 ≤ s ∧ s ≤ 224 then (1 : EReal) else 0) (ha : ∀ (h : s < 226) (q : Fin 27), a (ix2 q l) = Spec.patch X yy ⟨s, h⟩ (by omega) q) :
    decoded hb hm c4 x5 x6 mask (rounded hb c0 c1 c2 x3 x4 a) (ix2 t l) = Spec.tap X x3 x4 x5 x6 t yy s := by
  refine (decoded_apply hc hb hm x5 x6 mask _ _ l (fun d => rounded_apply hc hb x3 x4 a d l) t).trans ?_
  rw [hs]
  unfold Spec.tap
  by_cases h : 1 ≤ s ∧ s ≤ 224
  · rw [dif_pos ⟨hy, h⟩, if_pos h]
    have e : (fun q => a (ix2 q l)) = Spec.patch X yy ⟨s, by omega⟩ (by omega) := funext fun q => ha (by omega) q
    rw [e]
    exact mul_one _
  · rw [dif_neg (fun hh => h hh.2), if_neg h]
    exact mul_zero _

/-- The numbers of block `k`. -/
def tower (k : Fin 14) : FVec Ideal S27x4096 .f32 :=
  shapeCast S27x4096 (decoded broadcasts_S4x1_S4x4096 broadcasts_S1x4096_S27x4096 (run.sl.v4 c arg9 harg9 x7) (run.sl.v11 c arg7 harg7 x5) (run.sl.v13 c arg8 harg8 x6) k0_pay6
    (rounded broadcasts_S4x1_S4x4096 (run.sl.v0 c arg9 harg9 x7) (run.sl.v1 c arg9 harg9 x7) (run.sl.v2 c arg9 harg9 x7) (run.sl.v7 c arg5 harg5 x3) (run.sl.v9 c arg6 harg6 x4) (loaded c i arg2 harg2 arg3 harg3 arg4 harg4 arg13 x0 x1 x2 k))) shapeCasts_S27x4096_S27x4096

theorem tower_apply (h7 : ∀ (d : Fin 4) (j : Fin 6), x7 (ix2 d j) = Pixel.fsq d j) (k : Fin 14) (t : Fin 27) (l : Fin 4096)
    (hy : 1 ≤ 16 * k.val + l.val / 256 ∧ 16 * k.val + l.val / 256 ≤ 224) :
    tower c i arg2 harg2 arg3 harg3 arg4 harg4 arg5 harg5 arg6 harg6 arg7 harg7 arg8 harg8 arg9 harg9 arg13 x0 x1 x2 x3 x4 x5 x6 x7 k (ix2 t l) = Spec.tap ![x0, x1, x2] x3 x4 x5 x6 t (16 * k.val + l.val / 256) (l.val % 256) := by
  unfold tower
  refine (shapeCast_apply _ _ _ (ix2 t l) rfl).trans ?_
  rw [w1_eq, w2_eq, wd1_eq, wd2_eq]
  exact decoded_tap x3 x4 x5 x6 _ _ (columns c arg9 harg9 x7 h7) _ _ _ t l _ _ hy (mask_apply l)
    fun h q => loaded_apply c i arg2 harg2 arg3 harg3 arg4 harg4 arg13 x0 x1 x2 k q l h

/-- The numbers of the last block. -/
def lastTower : FVec Ideal S27x512 .f32 :=
  shapeCast S27x512 (decoded broadcasts_S4x1_S4x512 broadcasts_S1x512_S27x512 (run.sl.v4 c arg9 harg9 x7) (run.sl.v11 c arg7 harg7 x5) (run.sl.v13 c arg8 harg8 x6)
    (extractStridedSlice S1x512 ![0, 0] k0_pay6 slices_S1x4096_o0_0_S1x512)
    (rounded broadcasts_S4x1_S4x512 (run.sl.v0 c arg9 harg9 x7) (run.sl.v1 c arg9 harg9 x7) (run.sl.v2 c arg9 harg9 x7) (run.sl.v7 c arg5 harg5 x3) (run.sl.v9 c arg6 harg6 x4) (run.sl.v5639 c i arg2 harg2 arg3 harg3 arg4 harg4 arg13 x0 x1 x2))) shapeCasts_S27x512_S27x512

theorem lastTower_apply (h7 : ∀ (d : Fin 4) (j : Fin 6), x7 (ix2 d j) = Pixel.fsq d j) (t : Fin 27) (l : Fin 512) (hl : l.val < 256) :
    lastTower c i arg2 harg2 arg3 harg3 arg4 harg4 arg5 harg5 arg6 harg6 arg7 harg7 arg8 harg8 arg9 harg9 arg13 x0 x1 x2 x3 x4 x5 x6 x7 (ix2 t l) = Spec.tap ![x0, x1, x2] x3 x4 x5 x6 t 224 l.val := by
  unfold lastTower
  refine (shapeCast_apply _ _ _ (ix2 t l) rfl).trans ?_
  rw [w1_eq, w2_eq, wd1_eq, wd2_eq]
  refine decoded_tap x3 x4 x5 x6 _ _ (columns c arg9 harg9 x7 h7) _ _ _ t l _ _ ⟨by decide, le_rfl⟩ ?_ fun h q => ?_
  · refine (extractStridedSlice_apply _ _ _ _ (ix2 0 (⟨l.val, by omega⟩ : Fin 4096)) fun a => ?_).trans ?_
    · fin_cases a
      · rfl
      · exact (Nat.zero_add _).symm
    · refine (mask_apply _).trans ?_
      dsimp only
      rw [Nat.mod_eq_of_lt hl]
  · have e1 : l.val / 256 = 0 := by omega
    have e2 : l.val % 256 = l.val := by omega
    refine (last_apply c i arg2 harg2 arg3 harg3 arg4 harg4 arg13 x0 x1 x2 q l (by omega)).trans ?_
    simp only [e1, e2]

/-! ### The stored numbers -/

/-- The first `n` blocks' stores. -/
def blocks (T : Fin 14 → FVec Ideal S27x4096 .f32) : (n : ℕ) → n ≤ 14 → List (View.Piece (Elt Ideal) S27x58112 .f32)
  | 0, _ => []
  | n + 1, h => ⟨Rect.unit ![0, 4096 * n] S27x4096.size fun a => by
      match a with
      | ⟨0, _⟩ => exact le_rfl
      | ⟨1, _⟩ => change 4096 * n + 4096 ≤ 58112; omega, T ⟨n, h⟩⟩ :: blocks T n (by omega)

theorem blocks_succ (T : Fin 14 → FVec Ideal S27x4096 .f32) (n : ℕ) (h : n + 1 ≤ 14) (inb) (w : FVec Ideal S27x4096 .f32)
    (L : List (View.Piece (Elt Ideal) S27x58112 .f32)) (hw : w = T ⟨n, h⟩) (hL : blocks T n (by omega) = L) :
    blocks T (n + 1) h = ⟨Rect.unit ![0, 4096 * n] S27x4096.size inb, w⟩ :: L := by subst hw hL; rfl

theorem blocks_read {κ : Kind} {sp : Space} (v : View sig κ sp S27x58112 .f32) (f : v.ty.Contents (Elt Ideal))
    (T : Fin 14 → FVec Ideal S27x4096 .f32) (t : Fin 27) (l : Fin 58112) :
    ∀ (n : ℕ) (h : n ≤ 14) (hl : l.val < 4096 * n), v.read (Elt Ideal) (v.writes (Elt Ideal) f (blocks T n h)) (ix2 t l)
      = T ⟨l.val / 4096, by omega⟩ (ix2 t ⟨l.val % 4096, Nat.mod_lt _ (by decide)⟩)
  | 0, _, hl => by omega
  | n + 1, h, hl => by
    unfold blocks
    by_cases hn : 4096 * n ≤ l.val
    · refine (read_hit2 v f _ _ _ t l t ⟨l.val - 4096 * n, by omega⟩ (Nat.zero_add _).symm (by dsimp only; omega)).trans ?_
      exact congrArg₂ (fun k j => T k (ix2 t j)) (Fin.ext (by dsimp only; omega)) (Fin.ext (by dsimp only; omega))
    · refine (read_miss2 v f _ _ _ t l (Or.inl (by omega))).trans ?_
      exact blocks_read v f T t l n (by omega) (by omega)

set_option maxHeartbeats 4000000 in
theorem blocks_eq : blocks (tower c i arg2 harg2 arg3 harg3 arg4 harg4 arg5 harg5 arg6 harg6 arg7 harg7 arg8 harg8 arg9 harg9 arg13 x0 x1 x2 x3 x4 x5 x6 x7) 14 (by decide) = run.sl.HS0_14 c i arg2 harg2 arg3 harg3 arg4 harg4 arg5 harg5 arg6 harg6 arg7 harg7 arg8 harg8 arg9 harg9 arg13 x0 x1 x2 x3 x4 x5 x6 x7 := by
  iterate 14 (refine blocks_succ _ _ _ _ _ _ ?_ ?_; · rfl)
  rfl

theorem lastTower_eq : lastTower c i arg2 harg2 arg3 harg3 arg4 harg4 arg5 harg5 arg6 harg6 arg7 harg7 arg8 harg8 arg9 harg9 arg13 x0 x1 x2 x3 x4 x5 x6 x7 = k0_pay3002 (run.sl.v13 c arg8 harg8 x6) k0_pay6
    (run.sl.v5673 c i arg2 harg2 arg3 harg3 arg4 harg4 arg5 harg5 arg6 harg6 arg7 harg7 arg9 harg9 arg13 x0 x1 x2 x3 x4 x5 x7) := rfl

end Cert.KernelIdeal.Body

end
-- ==== Proof.Stores.lean ====
module

public import proofs.«01_k».proof.Proof.Taps

@[expose] public section

/-!
The two results that the body stores, row by row: the sums of nine shifted reads, and the index words.
-/

set_option maxRecDepth 65536

noncomputable section

namespace Cert.KernelIdeal.Body

open Cert.KernelIdeal.Gen Cert.KernelIdeal Cert.Tower Cert.Blocks
open Idealize.ShloMosaic Idealize.ShloMosaic.TcCoe Idealize.ShloMosaic.Tactic

variable (c : Dev nD) (i : grid0.Coords)
  (arg2 : Memref sig .tc .vmem S1x3x234x226 .bf16) (harg2 : arg2.IsWhole) (arg3 : Memref sig .tc .vmem S1x3x234x226 .bf16) (harg3 : arg3.IsWhole)
  (arg4 : Memref sig .tc .vmem S1x3x234x226 .bf16) (harg4 : arg4.IsWhole) (arg5 : Memref sig .tc .vmem S192x27 .bf16) (harg5 : arg5.IsWhole)
  (arg6 : Memref sig .tc .vmem S4x192 .bf16) (harg6 : arg6.IsWhole) (arg7 : Memref sig .tc .vmem S192x4 .bf16) (harg7 : arg7.IsWhole)
  (arg8 : Memref sig .tc .vmem S27x192 .bf16) (harg8 : arg8.IsWhole) (arg9 : Memref sig .tc .vmem S4x6 .f32) (harg9 : arg9.IsWhole)
  (arg12 : Memref sig .tc .vmem S27x58112 .f32) (arg13 : Memref sig .tc .vmem S27x4096 .bf16)
  (x0 x1 x2 : Vec Ideal S1x3x234x226 .bf16) (x3 : Vec Ideal S192x27 .bf16) (x4 : Vec Ideal S4x192 .bf16) (x5 : Vec Ideal S192x4 .bf16)
  (x6 : Vec Ideal S27x192 .bf16) (x7 : Vec Ideal S4x6 .f32)

theorem zeros_apply (t : Fin 27) (l : Fin 256) : @Eq EReal (k0_pay3003 (F := Ideal) (ix2 t l)) 0 := by
  unfold k0_pay3003
  refine (shapeCast_apply _ _ _ (ix2 t l) rfl).trans ?_
  exact Ideal.ofBits_zero_f32

/-- What the second scratch array holds, whatever it held before. -/
theorem stored_apply (h7 : ∀ (d : Fin 4) (j : Fin 6), x7 (ix2 d j) = Pixel.fsq d j) (f : arg12.view.ty.Contents (Elt Ideal)) (t : Fin 27) (l : Fin 58112) (hl : l.val < 57856) :
    arg12.view.read (Elt Ideal) (arg12.view.writes (Elt Ideal) f (run.sl.HS0_17 c i arg2 harg2 arg3 harg3 arg4 harg4 arg5 harg5 arg6 harg6 arg7 harg7 arg8 harg8 arg9 harg9 arg13 x0 x1 x2 x3 x4 x5 x6 x7)) (ix2 t l)
      = Spec.tap ![x0, x1, x2] x3 x4 x5 x6 t (l.val / 256) (l.val % 256) := by
  unfold run.sl.HS0_17
  have hz (h : ¬(1 ≤ l.val / 256 ∧ l.val / 256 ≤ 224)) : Spec.tap ![x0, x1, x2] x3 x4 x5 x6 t (l.val / 256) (l.val % 256) = 0 := by
    unfold Spec.tap
    rw [dif_neg fun hh => h hh.1]
  by_cases h1 : 57600 ≤ l.val
  · refine (read_hit2 arg12.view f _ _ _ t l t ⟨l.val - 57600, by omega⟩ (Nat.zero_add _).symm (by dsimp only; omega)).trans ?_
    rw [hz (by omega)]
    exact zeros_apply t _
  refine (read_miss2 arg12.view f _ _ _ t l (Or.inl (by omega))).trans ?_
  by_cases h2 : l.val < 256
  · refine (read_hit2 arg12.view f _ _ _ t l t ⟨l.val, h2⟩ (Nat.zero_add _).symm (Nat.zero_add _).symm).trans ?_
    rw [hz (by omega)]
    exact zeros_apply t _
  refine (read_miss2 arg12.view f _ _ _ t l (Or.inr (by omega))).trans ?_
  by_cases h3 : 57344 ≤ l.val
  · refine (read_hit2 arg12.view f _ _ _ t l t ⟨l.val - 57344, by omega⟩ (Nat.zero_add _).symm (by dsimp only; omega)).trans ?_
    rw [← lastTower_eq]
    refine (lastTower_apply c i arg2 harg2 arg3 harg3 arg4 harg4 arg5 harg5 arg6 harg6 arg7 harg7 arg8 harg8 arg9 harg9 arg13 x0 x1 x2 x3 x4 x5 x6 x7 h7 t _ (by dsimp only; omega)).trans ?_
    have e1 : l.val / 256 = 224 := by omega
    have e2 : l.val % 256 = l.val - 57344 := by omega
    rw [e1, e2]
  refine (read_miss2 arg12.view f _ _ _ t l (Or.inl (by omega))).trans ?_
  rw [← blocks_eq]
  refine (blocks_read arg12.view f _ t l 14 _ (by omega)).trans ?_
  refine (tower_apply c i arg2 harg2 arg3 harg3 arg4 harg4 arg5 harg5 arg6 harg6 arg7 harg7 arg8 harg8 arg9 harg9 arg13 x0 x1 x2 x3 x4 x5 x6 x7 h7 _ t _ (by dsimp only; omega)).trans ?_
  have e1 : 16 * (l.val / 4096) + l.val % 4096 / 256 = l.val / 256 := by omega
  have e2 : l.val % 4096 % 256 = l.val % 256 := by omega
  dsimp only
  rw [e1, e2]

/-! ### The decoded image -/

/-- One of the nine shifted reads of a group of eight rows. -/
def shifted (f : arg12.view.ty.Contents (Elt Ideal)) (L : List (View.Piece (Elt Ideal) S27x58112 .f32)) (g : ℕ) (hg : g < 28) (ky kx : ℕ) (hk : ky < 3) (hx : kx < 3) :
    FVec Ideal S3x2048 .f32 :=
  arg12.view.readAt (Elt Ideal) (Rect.unit (s := S27x58112) ![3 * (3 * ky + kx), 2048 * g + 256 * ky + kx] S3x2048.size fun a => by
      match a with
      | ⟨0, _⟩ => change 3 * (3 * ky + kx) + 3 ≤ 27; omega
      | ⟨1, _⟩ => change 2048 * g + 256 * ky + kx + 2048 ≤ 58112; omega).toLoadRect (arg12.view.writes (Elt Ideal) f L)

/-- Their sum; the last two reads may see other earlier contents. -/
def total (f f' : arg12.view.ty.Contents (Elt Ideal)) (L : List (View.Piece (Elt Ideal) S27x58112 .f32)) (g : ℕ) (hg : g < 28) : FVec Ideal S3x2048 .f32 :=
  let S (ky kx : ℕ) (hk : ky < 3) (hx : kx < 3) := shifted arg12 f L g hg ky kx hk hx
  let S' (ky kx : ℕ) (hk : ky < 3) (hx : kx < 3) := shifted arg12 f' L g hg ky kx hk hx
  addf (addf (addf (addf (addf (addf (addf (addf (S 0 0 (by decide) (by decide)) (S 0 1 (by decide) (by decide))) (S 0 2 (by decide) (by decide)))
    (S 1 0 (by decide) (by decide))) (S 1 1 (by decide) (by decide))) (S 1 2 (by decide) (by decide))) (S 2 0 (by decide) (by decide)))
    (S' 2 1 (by decide) (by decide))) (S' 2 2 (by decide) (by decide))

theorem shifted_apply (h7 : ∀ (d : Fin 4) (j : Fin 6), x7 (ix2 d j) = Pixel.fsq d j) (f : arg12.view.ty.Contents (Elt Ideal)) (g : ℕ) (hg : g < 28)
    (ky kx : ℕ) (hk : ky < 3) (hx : kx < 3) (o : Fin 3) (r x : ℕ) (hr : r < 8) (hxx : x < 224) :
    shifted arg12 f (run.sl.HS0_17 c i arg2 harg2 arg3 harg3 arg4 harg4 arg5 harg5 arg6 harg6 arg7 harg7 arg8 harg8 arg9 harg9 arg13 x0 x1 x2 x3 x4 x5 x6 x7) g hg ky kx hk hx (ix2 o ⟨256 * r + x, by omega⟩)
      = Spec.tap ![x0, x1, x2] x3 x4 x5 x6 ⟨(ky * 3 + kx) * 3 + o.val, by omega⟩ (8 * g + r + ky) (x + kx) := by
  unfold shifted
  refine (cov2 arg12.view _ _ o _ ⟨3 * (3 * ky + kx) + o.val, by omega⟩ ⟨2048 * g + 256 * ky + kx + (256 * r + x), by omega⟩ rfl rfl).trans ?_
  refine (stored_apply c i arg2 harg2 arg3 harg3 arg4 harg4 arg5 harg5 arg6 harg6 arg7 harg7 arg8 harg8 arg9 harg9 arg12 arg13 x0 x1 x2 x3 x4 x5 x6 x7 h7 f _ _ (by dsimp only; omega)).trans ?_
  have e1 : (2048 * g + 256 * ky + kx + (256 * r + x)) / 256 = 8 * g + r + ky := by omega
  have e2 : (2048 * g + 256 * ky + kx + (256 * r + x)) % 256 = x + kx := by omega
  have e3 : 3 * (3 * ky + kx) + o.val = (ky * 3 + kx) * 3 + o.val := by omega
  simp only [e1, e2, e3]

theorem total_apply (h7 : ∀ (d : Fin 4) (j : Fin 6), x7 (ix2 d j) = Pixel.fsq d j) (f f' : arg12.view.ty.Contents (Elt Ideal)) (g : ℕ) (hg : g < 28)
    (o : Fin 3) (r x : ℕ) (hr : r < 8) (hxx : x < 224) :
    total arg12 f f' (run.sl.HS0_17 c i arg2 harg2 arg3 harg3 arg4 harg4 arg5 harg5 arg6 harg6 arg7 harg7 arg8 harg8 arg9 harg9 arg13 x0 x1 x2 x3 x4 x5 x6 x7) g hg (ix2 o ⟨256 * r + x, by omega⟩)
      = Spec.decBlk ![x0, x1, x2] x3 x4 x5 x6 (ix4 0 o ⟨8 * g + r, by omega⟩ ⟨x, hxx⟩) := by
  have h (f : arg12.view.ty.Contents (Elt Ideal)) (ky kx : ℕ) (hk : ky < 3) (hx : kx < 3) :=
    shifted_apply c i arg2 harg2 arg3 harg3 arg4 harg4 arg5 harg5 arg6 harg6 arg7 harg7 arg8 harg8 arg9 harg9 arg12 arg13 x0 x1 x2 x3 x4 x5 x6 x7 h7 f g hg ky kx hk hx o r x hr hxx
  unfold total Spec.decBlk
  refine congrArg₂ (· + ·) (congrArg₂ (· + ·) (congrArg₂ (· + ·) (congrArg₂ (· + ·) (congrArg₂ (· + ·) (congrArg₂ (· + ·) (congrArg₂ (· + ·) (congrArg₂ (· + ·)
    (h f 0 0 _ _) (h f 0 1 _ _)) (h f 0 2 _ _)) (h f 1 0 _ _)) (h f 1 1 _ _)) (h f 1 2 _ _)) (h f 2 0 _ _)) (h f' 2 1 _ _)) (h f' 2 2 _ _)

/-- The stored row `r` of a group. -/
def outRow (S : FVec Ideal S3x2048 .f32) (r : ℕ) (hr : r < 8) : FVec Ideal S1x3x1x224 .f32 :=
  shapeCast S1x3x1x224 (shapeCast S3x1x224 (extractStridedSlice S3x224 ![0, 256 * r] S ⟨rfl, fun a => by
      match a with
      | ⟨0, _⟩ => exact le_rfl
      | ⟨1, _⟩ => change 256 * r + 224 ≤ 2048; omega⟩) shapeCasts_S3x224_S3x1x224) shapeCasts_S3x1x224_S1x3x1x224

theorem outRow_apply (S : FVec Ideal S3x2048 .f32) (r : ℕ) (hr : r < 8) (o : Fin 3) (x : Fin 224) :
    outRow S r hr (ix4 0 o 0 x) = S (ix2 o ⟨256 * r + x.val, by omega⟩) := by
  unfold outRow
  refine (shapeCast_apply _ _ _ (ix3 o 0 x) ?_).trans ((shapeCast_apply _ _ _ (ix2 o x) ?_).trans (extractStridedSlice_apply _ _ _ _ _ fun a => ?_))
  · refine (Shape.rowMajor_val_three _).trans (Eq.trans ?_ (Shape.rowMajor_val_four _).symm)
    change (o.val * 1 + 0) * 224 + x.val = ((0 * 3 + o.val) * 1 + 0) * 224 + x.val
    omega
  · refine (Shape.rowMajor_val_two _).trans (Eq.trans ?_ (Shape.rowMajor_val_three _).symm)
    change o.val * 224 + x.val = (o.val * 1 + 0) * 224 + x.val
    omega
  · match a with
    | ⟨0, _⟩ => exact (Nat.zero_add _).symm
    | ⟨1, _⟩ => rfl

theorem out_inb (y : ℕ) (hy : y < 224) (a : Fin 4) : (![0, 0, y, 0] : Fin 4 → ℕ) a + S1x3x1x224.size a ≤ S1x3x224x224.size a := by
  match a with
  | ⟨0, _⟩ => exact le_rfl
  | ⟨1, _⟩ => exact le_rfl
  | ⟨2, _⟩ => change y + 1 ≤ 224; omega
  | ⟨3, _⟩ => exact le_rfl

/-- The stores of the first `n` rows of a group, over the earlier ones. -/
def group (S : FVec Ideal S3x2048 .f32) (y0 : ℕ) (hy : y0 + 8 ≤ 224) (rest : List (View.Piece (Elt Ideal) S1x3x224x224 .f32)) :
    (n : ℕ) → n ≤ 8 → List (View.Piece (Elt Ideal) S1x3x224x224 .f32)
  | 0, _ => rest
  | n + 1, h => ⟨Rect.unit ![0, 0, y0 + n, 0] S1x3x1x224.size (out_inb (y0 + n) (by omega)), outRow S n h⟩ :: group S y0 hy rest n (by omega)

theorem group_succ (S : FVec Ideal S3x2048 .f32) (y0 : ℕ) (hy : y0 + 8 ≤ 224) (rest : List (View.Piece (Elt Ideal) S1x3x224x224 .f32)) (n : ℕ) (h : n + 1 ≤ 8)
    (inb) (w : FVec Ideal S1x3x1x224 .f32) (L : List (View.Piece (Elt Ideal) S1x3x224x224 .f32)) (hw : w = outRow S n h)
    (hL : group S y0 hy rest n (by omega) = L) :
    group S y0 hy rest (n + 1) h = ⟨Rect.unit ![0, 0, y0 + n, 0] S1x3x1x224.size inb, w⟩ :: L := by subst hw hL; rfl

theorem group_read {κ : Kind} {sp : Space} (v : View sig κ sp S1x3x224x224 .f32) (f : v.ty.Contents (Elt Ideal)) (S : FVec Ideal S3x2048 .f32)
    (y0 : ℕ) (hy : y0 + 8 ≤ 224) (rest : List (View.Piece (Elt Ideal) S1x3x224x224 .f32)) (G : Vec Ideal S1x3x224x224 .f32)
    (hS : ∀ (o : Fin 3) (r x : ℕ) (hr : r < 8) (hx : x < 224), S (ix2 o ⟨256 * r + x, by omega⟩) = G (ix4 0 o ⟨y0 + r, by omega⟩ ⟨x, hx⟩))
    (o : Fin 3) (y x : Fin 224) (hrest : y.val < y0 → v.read (Elt Ideal) (v.writes (Elt Ideal) f rest) (ix4 0 o y x) = G (ix4 0 o y x)) :
    ∀ (n : ℕ) (h : n ≤ 8) (hl : y.val < y0 + n), v.read (Elt Ideal) (v.writes (Elt Ideal) f (group S y0 hy rest n h)) (ix4 0 o y x) = G (ix4 0 o y x)
  | 0, _, hl => hrest hl
  | n + 1, h, hl => by
    unfold group
    by_cases hn : y.val = y0 + n
    · refine (read_hit v f _ _ _ (ix4 0 o 0 x) (ix4 0 o y x) fun a => ?_).trans ?_
      · match a with
        | ⟨0, _⟩ => rfl
        | ⟨1, _⟩ => exact (Nat.zero_add _).symm
        | ⟨2, _⟩ => exact hn
        | ⟨3, _⟩ => exact (Nat.zero_add _).symm
      · refine (outRow_apply S n h o x).trans ((hS o n x.val h x.isLt).trans ?_)
        exact congrArg (fun z => G (ix4 0 o z x)) (Fin.ext hn.symm)
    · refine (read_miss v f _ _ _ fun hm => ?_).trans (group_read v f S y0 hy rest G hS o y x hrest n (by omega) (by omega))
      have hm' : ix4 0 o y x ∈ (Rect.unit (s := S1x3x224x224) ![0, 0, y0 + n, 0] S1x3x1x224.size (out_inb (y0 + n) (by omega))).set := hm
      have h1 : y0 + n ≤ y.val ∧ y.val < y0 + n + 1 := (Rect.mem_set_unit.mp hm') (2 : Fin 4)
      omega

/-- The stores of the first `n` groups. -/
def groups (T : (g : ℕ) → g < 28 → FVec Ideal S3x2048 .f32) : (n : ℕ) → n ≤ 28 → List (View.Piece (Elt Ideal) S1x3x224x224 .f32)
  | 0, _ => []
  | n + 1, h => group (T n h) (8 * n) (by omega) (groups T n (by omega)) 8 le_rfl

theorem groups_read {κ : Kind} {sp : Space} (v : View sig κ sp S1x3x224x224 .f32) (f : v.ty.Contents (Elt Ideal)) (T : (g : ℕ) → g < 28 → FVec Ideal S3x2048 .f32)
    (G : Vec Ideal S1x3x224x224 .f32)
    (hT : ∀ (g : ℕ) (hg : g < 28) (o : Fin 3) (r x : ℕ) (hr : r < 8) (hx : x < 224), T g hg (ix2 o ⟨256 * r + x, by omega⟩) = G (ix4 0 o ⟨8 * g + r, by omega⟩ ⟨x, hx⟩))
    (o : Fin 3) (y x : Fin 224) :
    ∀ (n : ℕ) (h : n ≤ 28) (hl : y.val < 8 * n), v.read (Elt Ideal) (v.writes (Elt Ideal) f (groups T n h)) (ix4 0 o y x) = G (ix4 0 o y x)
  | 0, _, hl => by omega
  | n + 1, h, hl => group_read v f (T n h) (8 * n) _ _ G (hT n h) o y x (fun hy => groups_read v f T G hT o y x n (by omega) hy) 8 le_rfl hl

theorem groups_succ (T : (g : ℕ) → g < 28 → FVec Ideal S3x2048 .f32) (n : ℕ) (h : n + 1 ≤ 28) (L : List (View.Piece (Elt Ideal) S1x3x224x224 .f32))
    (hL : group (T n h) (8 * n) (by omega) (groups T n (by omega)) 8 le_rfl = L) : groups T (n + 1) h = L := hL

/-! ### The index words -/

/-- The index words of a block's lanes, moved one lane down. -/
theorem moved_apply (v : FVec Ideal S4096 .f32) (l : Fin 4096) (h : l.val + 1 < 4096) :
    k0_pay199 v (ix2 0 l) = Ideal.fptosi 32 (v (ix1 ⟨l.val + 1, h⟩)) := by
  unfold k0_pay199
  pointwise
  rw [dif_pos (by omega)]
  exact congrArg (fun j => Ideal.fptosi 32 (v (ix1 j))) (Fin.ext (Nat.add_comm _ _))

/-- The stored row of the last block's words. -/
def lastMoved (v : FVec Ideal S512 .f32) : IVec S1x1x224 32 :=
  let w : IVec S1x512 32 := fptosi 32 (shapeCast S1x512 v shapeCasts_S512_S1x512)
  shapeCast S1x1x224 (extractStridedSlice S1x224 ![0, 0] (concatenate S1x512 1 [⟨S1x511, extractStridedSlice S1x511 ![0, 1] w slices_S1x512_o0_1_S1x511⟩,
    ⟨S1x1, extractStridedSlice S1x1 ![0, 0] w slices_S1x512_o0_0_S1x1⟩] concatenates_S1x511_S1x1_S1x512_d1) slices_S1x512_o0_0_S1x224) shapeCasts_S1x224_S1x1x224

theorem lastMoved_apply (v : FVec Ideal S512 .f32) (x : Fin 224) : lastMoved v (ix3 0 0 x) = Ideal.fptosi 32 (v (ix1 ⟨x.val + 1, by omega⟩)) := by
  unfold lastMoved
  pointwise
  rw [dif_pos (by omega)]
  exact congrArg (fun j => Ideal.fptosi 32 (v (ix1 j))) (Fin.ext (by dsimp only; omega))

/-- The index words of block `k`. -/
def words (k : Fin 14) : IVec S1x4096 32 :=
  k0_pay199 (indexed broadcasts_S4x1_S4x4096 reduces_S4x4096_S4096 (run.sl.v3 c arg9 harg9 x7) (run.sl.v5 c arg9 harg9 x7)
    (rounded broadcasts_S4x1_S4x4096 (run.sl.v0 c arg9 harg9 x7) (run.sl.v1 c arg9 harg9 x7) (run.sl.v2 c arg9 harg9 x7) (run.sl.v7 c arg5 harg5 x3) (run.sl.v9 c arg6 harg6 x4) (loaded c i arg2 harg2 arg3 harg3 arg4 harg4 arg13 x0 x1 x2 k)))

theorem words_apply (h7 : ∀ (d : Fin 4) (j : Fin 6), x7 (ix2 d j) = Pixel.fsq d j) (k : Fin 14) (r : ℕ) (hr : r < 16) (x : Fin 224) (y : Fin 224)
    (hy : 16 * k.val + r = y.val + 1) :
    words c i arg2 harg2 arg3 harg3 arg4 harg4 arg5 harg5 arg6 harg6 arg9 harg9 arg13 x0 x1 x2 x3 x4 x7 k (ix2 0 ⟨256 * r + x.val, by omega⟩) = Spec.idxBlk ![x0, x1, x2] x3 x4 (ix3 0 y x) := by
  unfold words
  refine (moved_apply _ _ (by dsimp only; omega)).trans ?_
  unfold Spec.idxBlk Pixel.word
  rw [w1_eq, w2_eq]
  refine congrArg (Ideal.fptosi 32) ?_
  refine indexed_apply (columns c arg9 harg9 x7 h7) _ _ _ _ _ fun d => ?_
  refine (rounded_apply (columns c arg9 harg9 x7 h7) _ x3 x4 _ d _).trans ?_
  unfold Spec.code
  refine congrArg (fun a => Pixel.rnd (Pixel.enc (mat x3) (mat x4) a) d) (funext fun q => ?_)
  refine (loaded_apply c i arg2 harg2 arg3 harg3 arg4 harg4 arg13 x0 x1 x2 k q _ (by dsimp only; omega)).trans ?_
  have e1 : 16 * k.val + (256 * r + x.val + 1) / 256 = y.val + 1 := by omega
  have e2 : (256 * r + x.val + 1) % 256 = x.val + 1 := by omega
  simp only [e1, e2]
  rfl

theorem lastWords_apply (h7 : ∀ (d : Fin 4) (j : Fin 6), x7 (ix2 d j) = Pixel.fsq d j) (x : Fin 224) :
    k0_pay3000 (run.sl.v0 c arg9 harg9 x7) (run.sl.v1 c arg9 harg9 x7) (run.sl.v2 c arg9 harg9 x7) (run.sl.v3 c arg9 harg9 x7) (run.sl.v5 c arg9 harg9 x7) (run.sl.v7 c arg5 harg5 x3) (run.sl.v9 c arg6 harg6 x4) (run.sl.v5639 c i arg2 harg2 arg3 harg3 arg4 harg4 arg13 x0 x1 x2) (ix3 0 0 x) = Spec.idxBlk ![x0, x1, x2] x3 x4 (ix3 0 223 x) := by
  have e : k0_pay3000 (run.sl.v0 c arg9 harg9 x7) (run.sl.v1 c arg9 harg9 x7) (run.sl.v2 c arg9 harg9 x7) (run.sl.v3 c arg9 harg9 x7) (run.sl.v5 c arg9 harg9 x7) (run.sl.v7 c arg5 harg5 x3) (run.sl.v9 c arg6 harg6 x4) (run.sl.v5639 c i arg2 harg2 arg3 harg3 arg4 harg4 arg13 x0 x1 x2)
      = lastMoved (indexed broadcasts_S4x1_S4x512 reduces_S4x512_S512 (run.sl.v3 c arg9 harg9 x7) (run.sl.v5 c arg9 harg9 x7)
        (rounded broadcasts_S4x1_S4x512 (run.sl.v0 c arg9 harg9 x7) (run.sl.v1 c arg9 harg9 x7) (run.sl.v2 c arg9 harg9 x7) (run.sl.v7 c arg5 harg5 x3) (run.sl.v9 c arg6 harg6 x4) (run.sl.v5639 c i arg2 harg2 arg3 harg3 arg4 harg4 arg13 x0 x1 x2))) := rfl
  rw [e, lastMoved_apply, w1_eq, w2_eq]
  unfold Spec.idxBlk Pixel.word
  refine congrArg (Ideal.fptosi 32) ?_
  refine indexed_apply (columns c arg9 harg9 x7 h7) _ _ _ _ _ fun d => ?_
  refine (rounded_apply (columns c arg9 harg9 x7 h7) _ x3 x4 _ d _).trans ?_
  unfold Spec.code
  refine congrArg (fun a => Pixel.rnd (Pixel.enc (mat x3) (mat x4) a) d) (funext fun q => ?_)
  refine (last_apply c i arg2 harg2 arg3 harg3 arg4 harg4 arg13 x0 x1 x2 q _ (by dsimp only; omega)).trans ?_
  have e1 : 224 + (x.val + 1) / 256 = 224 := by omega
  have e2 : (x.val + 1) % 256 = x.val + 1 := by omega
  simp only [e1, e2]
  rfl

/-- The stored row `r` of a block's words. -/
def wordRow (W : IVec S1x4096 32) (r : ℕ) (hr : r < 16) : IVec S1x1x224 32 :=
  shapeCast S1x1x224 (extractStridedSlice S1x224 ![0, 256 * r] W ⟨rfl, fun a => by
      match a with
      | ⟨0, _⟩ => exact le_rfl
      | ⟨1, _⟩ => change 256 * r + 224 ≤ 4096; omega⟩) shapeCasts_S1x224_S1x1x224

theorem wordRow_apply (W : IVec S1x4096 32) (r : ℕ) (hr : r < 16) (x : Fin 224) : wordRow W r hr (ix3 0 0 x) = W (ix2 0 ⟨256 * r + x.val, by omega⟩) := by
  unfold wordRow
  refine (shapeCast_apply _ _ _ (ix2 0 x) ?_).trans (extractStridedSlice_apply _ _ _ _ _ fun a => ?_)
  · refine (Shape.rowMajor_val_two _).trans (Eq.trans ?_ (Shape.rowMajor_val_three _).symm)
    change 0 * 224 + x.val = (0 * 1 + 0) * 224 + x.val
    omega
  · match a with
    | ⟨0, _⟩ => rfl
    | ⟨1, _⟩ => rfl

theorem idx_inb (y : ℕ) (hy : y < 224) (a : Fin 3) : (![0, y, 0] : Fin 3 → ℕ) a + S1x1x224.size a ≤ S1x224x224.size a := by
  match a with
  | ⟨0, _⟩ => exact le_rfl
  | ⟨1, _⟩ => change y + 1 ≤ 224; omega
  | ⟨2, _⟩ => exact le_rfl

/-- The stores of the first `n` rows of words. -/
def wordRows (W : Fin 14 → IVec S1x4096 32) : (n : ℕ) → n ≤ 223 → List (View.Piece (Elt Ideal) S1x224x224 .i32)
  | 0, _ => []
  | n + 1, h => ⟨Rect.unit ![0, n, 0] S1x1x224.size (idx_inb n (by omega)), wordRow (W ⟨(n + 1) / 16, by omega⟩) ((n + 1) % 16) (Nat.mod_lt _ (by decide))⟩
      :: wordRows W n (by omega)

theorem wordRows_succ (W : Fin 14 → IVec S1x4096 32) (n : ℕ) (h : n + 1 ≤ 223) (inb) (w : IVec S1x1x224 32) (L : List (View.Piece (Elt Ideal) S1x224x224 .i32))
    (hw : w = wordRow (W ⟨(n + 1) / 16, by omega⟩) ((n + 1) % 16) (Nat.mod_lt _ (by decide))) (hL : wordRows W n (by omega) = L) :
    wordRows W (n + 1) h = ⟨Rect.unit ![0, n, 0] S1x1x224.size inb, w⟩ :: L := by subst hw hL; rfl

theorem row3_hit {κ : Kind} {sp : Space} (v : View sig κ sp S1x224x224 .i32) (f : v.ty.Contents (Elt Ideal)) {n : ℕ} (inb) (w : IVec S1x1x224 32)
    (L : List (View.Piece (Elt Ideal) S1x224x224 .i32)) (y x : Fin 224) (h : y.val = n) :
    v.read (Elt Ideal) (v.writes (Elt Ideal) f (⟨Rect.unit ![0, n, 0] S1x1x224.size inb, w⟩ :: L)) (ix3 0 y x) = w (ix3 0 0 x) := by
  refine read_hit v f _ _ _ (ix3 0 0 x) (ix3 0 y x) fun a => ?_
  match a with
  | ⟨0, _⟩ => rfl
  | ⟨1, _⟩ => exact h
  | ⟨2, _⟩ => exact (Nat.zero_add _).symm

theorem row3_miss {κ : Kind} {sp : Space} (v : View sig κ sp S1x224x224 .i32) (f : v.ty.Contents (Elt Ideal)) {n : ℕ} (inb : ∀ a, (![0, n, 0] : Fin 3 → ℕ) a + S1x1x224.size a ≤ S1x224x224.size a)
    (w : IVec S1x1x224 32) (L : List (View.Piece (Elt Ideal) S1x224x224 .i32)) (y x : Fin 224) (h : y.val ≠ n) :
    v.read (Elt Ideal) (v.writes (Elt Ideal) f (⟨Rect.unit ![0, n, 0] S1x1x224.size inb, w⟩ :: L)) (ix3 0 y x) = v.read (Elt Ideal) (v.writes (Elt Ideal) f L) (ix3 0 y x) := by
  refine read_miss v f _ _ _ fun hm => ?_
  have hm' : ix3 0 y x ∈ (Rect.unit (s := S1x224x224) ![0, n, 0] S1x1x224.size inb).set := hm
  have h1 : n ≤ y.val ∧ y.val < n + 1 := (Rect.mem_set_unit.mp hm') (1 : Fin 3)
  omega

theorem wordRows_read {κ : Kind} {sp : Space} (v : View sig κ sp S1x224x224 .i32) (f : v.ty.Contents (Elt Ideal)) (W : Fin 14 → IVec S1x4096 32) (G : Vec Ideal S1x224x224 .i32)
    (hW : ∀ (k : Fin 14) (r : ℕ) (hr : r < 16) (x y : Fin 224), 16 * k.val + r = y.val + 1 → W k (ix2 0 ⟨256 * r + x.val, by omega⟩) = G (ix3 0 y x)) (y x : Fin 224) :
    ∀ (n : ℕ) (h : n ≤ 223) (hl : y.val < n), v.read (Elt Ideal) (v.writes (Elt Ideal) f (wordRows W n h)) (ix3 0 y x) = G (ix3 0 y x)
  | 0, _, hl => by omega
  | n + 1, h, hl => by
    unfold wordRows
    by_cases hn : y.val = n
    · refine (row3_hit v f _ _ _ y x hn).trans ((wordRow_apply _ _ (Nat.mod_lt _ (by decide)) x).trans (hW _ _ (Nat.mod_lt _ (by decide)) x y ?_))
      dsimp only
      omega
    · exact (row3_miss v f _ _ _ y x hn).trans (wordRows_read v f W G hW y x n (by omega) (by omega))

end Cert.KernelIdeal.Body

end
-- ==== Proof.Lists.lean ====
module

public import proofs.«01_k».proof.Proof.Stores

@[expose] public section

/-!
The two lists of stores that the run finds, in the form whose contents are known.
-/

set_option maxRecDepth 65536

noncomputable section

namespace Cert.KernelIdeal.Body

open Cert.KernelIdeal.Gen Cert.KernelIdeal Cert.Tower Cert.Blocks
open Idealize.ShloMosaic Idealize.ShloMosaic.TcCoe Idealize.ShloMosaic.Tactic

/-- A group of no rows is what comes before it. -/
theorem group_zero (S : FVec Ideal S3x2048 .f32) (y0 : ℕ) (hy : y0 + 8 ≤ 224) (rest L : List (View.Piece (Elt Ideal) S1x3x224x224 .f32)) (hL : rest = L) :
    group S y0 hy rest 0 (by omega) = L := hL

variable (c : Dev nD) (i : grid0.Coords)
  (arg2 : Memref sig .tc .vmem S1x3x234x226 .bf16) (harg2 : arg2.IsWhole) (arg3 : Memref sig .tc .vmem S1x3x234x226 .bf16) (harg3 : arg3.IsWhole)
  (arg4 : Memref sig .tc .vmem S1x3x234x226 .bf16) (harg4 : arg4.IsWhole) (arg5 : Memref sig .tc .vmem S192x27 .bf16) (harg5 : arg5.IsWhole)
  (arg6 : Memref sig .tc .vmem S4x192 .bf16) (harg6 : arg6.IsWhole) (arg7 : Memref sig .tc .vmem S192x4 .bf16) (harg7 : arg7.IsWhole)
  (arg8 : Memref sig .tc .vmem S27x192 .bf16) (harg8 : arg8.IsWhole) (arg9 : Memref sig .tc .vmem S4x6 .f32) (harg9 : arg9.IsWhole)
  (arg10 : Memref sig .tc .vmem S1x3x224x224 .f32) (harg10 : arg10.IsWhole) (arg11 : Memref sig .tc .vmem S1x224x224 .i32) (harg11 : arg11.IsWhole)
  (arg12 : Memref sig .tc .vmem S27x58112 .f32) (harg12 : arg12.IsWhole) (arg13 : Memref sig .tc .vmem S27x4096 .bf16) (harg13 : arg13.IsWhole) (hc : onlyBand i)
  (x0 x1 x2 : Vec Ideal S1x3x234x226 .bf16) (x3 : Vec Ideal S192x27 .bf16) (x4 : Vec Ideal S4x192 .bf16) (x5 : Vec Ideal S192x4 .bf16)
  (x6 : Vec Ideal S27x192 .bf16) (x7 : Vec Ideal S4x6 .f32)
  (fs0 : Buf (Elt Ideal) (arg12.view.loc (c : Thread nD τ)))

/-- The sums of a group, in the run's last group over the earlier contents. -/
def sums (g : ℕ) (hg : g < 28) : FVec Ideal S3x2048 .f32 :=
  total arg12 arg12.view.junk arg12.view.junk (run.sl.HS0_17 c i arg2 harg2 arg3 harg3 arg4 harg4 arg5 harg5 arg6 harg6 arg7 harg7 arg8 harg8 arg9 harg9 arg13 x0 x1 x2 x3 x4 x5 x6 x7) g hg

set_option maxHeartbeats 4000000 in
theorem dec_eq : group (total arg12 arg12.view.junk fs0 (run.sl.HS0_17 c i arg2 harg2 arg3 harg3 arg4 harg4 arg5 harg5 arg6 harg6 arg7 harg7 arg8 harg8 arg9 harg9 arg13 x0 x1 x2 x3 x4 x5 x6 x7) 27 (by decide)) 216 (by decide)
      (groups (sums c i arg2 harg2 arg3 harg3 arg4 harg4 arg5 harg5 arg6 harg6 arg7 harg7 arg8 harg8 arg9 harg9 arg12 arg13 x0 x1 x2 x3 x4 x5 x6 x7) 27 (by decide)) 8 le_rfl
    = (run c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0).1 := by
  iterate 8 (refine group_succ _ _ _ _ _ _ _ _ _ ?_ ?_; · rfl)
  iterate 27
    refine group_zero _ _ _ _ _ ?_
    refine groups_succ _ _ _ _ ?_
    iterate 8 (refine group_succ _ _ _ _ _ _ _ _ _ ?_ ?_; · rfl)
  refine group_zero _ _ _ _ _ ?_
  rfl

set_option maxHeartbeats 4000000 in
theorem idx_eq : (⟨Rect.unit ![0, 223, 0] S1x1x224.size Gen.inb_S1x224x224_S1x1x224_0_223_0,
        k0_pay3000 (run.sl.v0 c arg9 harg9 x7) (run.sl.v1 c arg9 harg9 x7) (run.sl.v2 c arg9 harg9 x7) (run.sl.v3 c arg9 harg9 x7) (run.sl.v5 c arg9 harg9 x7) (run.sl.v7 c arg5 harg5 x3) (run.sl.v9 c arg6 harg6 x4) (run.sl.v5639 c i arg2 harg2 arg3 harg3 arg4 harg4 arg13 x0 x1 x2)⟩ :: wordRows (words c i arg2 harg2 arg3 harg3 arg4 harg4 arg5 harg5 arg6 harg6 arg9 harg9 arg13 x0 x1 x2 x3 x4 x7) 223 le_rfl : List (View.Piece (Elt Ideal) S1x224x224 .i32))
    = (run c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0).2.1 := by
  refine congrArg (_ :: ·) ?_
  iterate 223 (refine wordRows_succ _ _ _ _ _ _ ?_ ?_; · rfl)
  rfl

end Cert.KernelIdeal.Body

end
-- ==== Proof.Left.lean ====
module

public import proofs.«01_k».proof.Proof.Lists

@[expose] public section

/-!
What the two result blocks hold after the run's stores.
-/

set_option maxRecDepth 65536

noncomputable section

namespace Cert.KernelIdeal.Body

open Cert.KernelIdeal.Gen Cert.KernelIdeal Cert.Tower Cert.Blocks
open Idealize.ShloMosaic Idealize.ShloMosaic.TcCoe Idealize.ShloMosaic.Tactic

variable (c : Dev nD) (i : grid0.Coords)
  (arg2 : Memref sig .tc .vmem S1x3x234x226 .bf16) (harg2 : arg2.IsWhole) (arg3 : Memref sig .tc .vmem S1x3x234x226 .bf16) (harg3 : arg3.IsWhole)
  (arg4 : Memref sig .tc .vmem S1x3x234x226 .bf16) (harg4 : arg4.IsWhole) (arg5 : Memref sig .tc .vmem S192x27 .bf16) (harg5 : arg5.IsWhole)
  (arg6 : Memref sig .tc .vmem S4x192 .bf16) (harg6 : arg6.IsWhole) (arg7 : Memref sig .tc .vmem S192x4 .bf16) (harg7 : arg7.IsWhole)
  (arg8 : Memref sig .tc .vmem S27x192 .bf16) (harg8 : arg8.IsWhole) (arg9 : Memref sig .tc .vmem S4x6 .f32) (harg9 : arg9.IsWhole)
  (arg10 : Memref sig .tc .vmem S1x3x224x224 .f32) (harg10 : arg10.IsWhole) (arg11 : Memref sig .tc .vmem S1x224x224 .i32) (harg11 : arg11.IsWhole)
  (arg12 : Memref sig .tc .vmem S27x58112 .f32) (harg12 : arg12.IsWhole) (arg13 : Memref sig .tc .vmem S27x4096 .bf16) (harg13 : arg13.IsWhole) (hc : onlyBand i)
  (x0 x1 x2 : Vec Ideal S1x3x234x226 .bf16) (x3 : Vec Ideal S192x27 .bf16) (x4 : Vec Ideal S4x192 .bf16) (x5 : Vec Ideal S192x4 .bf16)
  (x6 : Vec Ideal S27x192 .bf16) (x7 : Vec Ideal S4x6 .f32)
  (fs0 : Buf (Elt Ideal) (arg12.view.loc (c : Thread nD τ)))

theorem dec_read (h7 : ∀ (d : Fin 4) (j : Fin 6), x7 (ix2 d j) = Pixel.fsq d j) (f : arg10.view.ty.Contents (Elt Ideal)) :
    arg10.view.read (Elt Ideal) (arg10.view.writes (Elt Ideal) f (run c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0).1) = Spec.decBlk ![x0, x1, x2] x3 x4 x5 x6 := by
  rw [← dec_eq]
  funext j
  rw [show j = ix4 0 (j 1) (j 2) (j 3) by funext a; match a with
    | ⟨0, _⟩ => exact Fin.ext (Nat.lt_one_iff.mp (j 0).isLt)
    | ⟨1, _⟩ => rfl
    | ⟨2, _⟩ => rfl
    | ⟨3, _⟩ => rfl]
  refine group_read arg10.view f _ 216 _ _ _ (fun o r x hr hx => total_apply c i arg2 harg2 arg3 harg3 arg4 harg4 arg5 harg5 arg6 harg6 arg7 harg7 arg8 harg8 arg9 harg9 arg12 arg13 x0 x1 x2 x3 x4 x5 x6 x7 h7 _ _ 27 _ o r x hr hx) _ _ _ (fun hy => ?_) 8 le_rfl (j 2).isLt
  exact groups_read arg10.view f _ _ (fun g hg o r x hr hx => total_apply c i arg2 harg2 arg3 harg3 arg4 harg4 arg5 harg5 arg6 harg6 arg7 harg7 arg8 harg8 arg9 harg9 arg12 arg13 x0 x1 x2 x3 x4 x5 x6 x7 h7 _ _ g hg o r x hr hx) _ _ _ 27 _ hy

theorem idx_read (h7 : ∀ (d : Fin 4) (j : Fin 6), x7 (ix2 d j) = Pixel.fsq d j) (f : arg11.view.ty.Contents (Elt Ideal)) :
    arg11.view.read (Elt Ideal) (arg11.view.writes (Elt Ideal) f (run c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0).2.1) = Spec.idxBlk ![x0, x1, x2] x3 x4 := by
  rw [← idx_eq]
  funext j
  rw [show j = ix3 0 (j 1) (j 2) by funext a; match a with
    | ⟨0, _⟩ => exact Fin.ext (Nat.lt_one_iff.mp (j 0).isLt)
    | ⟨1, _⟩ => rfl
    | ⟨2, _⟩ => rfl]
  generalize (j 1) = y
  generalize (j 2) = x
  change Fin 224 at y
  change Fin 224 at x
  by_cases hy : y.val = 223
  · obtain rfl : y = 223 := Fin.ext hy
    exact (row3_hit arg11.view f _ _ _ 223 x rfl).trans (lastWords_apply c i arg2 harg2 arg3 harg3 arg4 harg4 arg5 harg5 arg6 harg6 arg9 harg9 arg13 x0 x1 x2 x3 x4 x7 h7 x)
  · refine (row3_miss arg11.view f _ _ _ y x hy).trans (wordRows_read arg11.view f _ _ (fun k r hr x y e => words_apply c i arg2 harg2 arg3 harg3 arg4 harg4 arg5 harg5 arg6 harg6 arg9 harg9 arg13 x0 x1 x2 x3 x4 x7 h7 k r hr x y e) y x 223 le_rfl ?_)
    have := y.isLt
    omega

end Cert.KernelIdeal.Body

end
-- ==== Proof.Leaves.lean ====
module

public import proofs.«01_k».proof.Proof.Gen.KernelIdeal.Frame
public import proofs.«01_k».proof.Proof.Left

@[expose] public section

/-!
The body as a triple: what it leaves in the two result blocks.
-/

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body reads its eight blocks, whatever the result blocks and the scratch hold, and leaves the decoded block and
    the index words. -/
theorem leaves (c : Dev nD) (i : grid0.Coords) (arg2 : Memref sig .tc .vmem S1x3x234x226 .bf16) (harg2 : arg2.IsWhole) (arg3 : Memref sig .tc .vmem S1x3x234x226 .bf16) (harg3 : arg3.IsWhole) (arg4 : Memref sig .tc .vmem S1x3x234x226 .bf16) (harg4 : arg4.IsWhole) (arg5 : Memref sig .tc .vmem S192x27 .bf16) (harg5 : arg5.IsWhole) (arg6 : Memref sig .tc .vmem S4x192 .bf16) (harg6 : arg6.IsWhole) (arg7 : Memref sig .tc .vmem S192x4 .bf16) (harg7 : arg7.IsWhole) (arg8 : Memref sig .tc .vmem S27x192 .bf16) (harg8 : arg8.IsWhole) (arg9 : Memref sig .tc .vmem S4x6 .f32) (harg9 : arg9.IsWhole) (arg10 : Memref sig .tc .vmem S1x3x224x224 .f32) (harg10 : arg10.IsWhole) (arg11 : Memref sig .tc .vmem S1x224x224 .i32) (harg11 : arg11.IsWhole) (arg12 : Memref sig .tc .vmem S27x58112 .f32) (harg12 : arg12.IsWhole) (arg13 : Memref sig .tc .vmem S27x4096 .bf16) (harg13 : arg13.IsWhole) (hc : onlyBand i)
    (x0 : Vec Ideal S1x3x234x226 .bf16) (x1 : Vec Ideal S1x3x234x226 .bf16) (x2 : Vec Ideal S1x3x234x226 .bf16) (x3 : Vec Ideal S192x27 .bf16) (x4 : Vec Ideal S4x192 .bf16) (x5 : Vec Ideal S192x4 .bf16) (x6 : Vec Ideal S27x192 .bf16) (x7 : Vec Ideal S4x6 .f32)
    (h7 : ∀ d j, x7 (ix2 d j) = Pixel.fsq d j) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (Spec.decBlk ![x0, x1, x2] x3 x4 x5 x6) ∗ owns (c : Thread nD τ) arg11 fullShare (Spec.idxBlk ![x0, x1, x2] x3 x4)
            ∗ (∃ d, owns (c : Thread nD τ) arg12 fullShare d) ∗ (∃ d, owns (c : Thread nD τ) arg13 fullShare d)) -∗ K ⟨⟩))
      ⊢ wp frame (wpE (defs₀ (F := Ideal)) Variants.none c none) E (cc0__vqvae_kernel i arg2 harg2 arg3 harg3 arg4 harg4 arg5 harg5 arg6 harg6 arg7 harg7 arg8 harg8 arg9 harg9 arg10 harg10 arg11 harg11 arg12 harg12 arg13 harg13) K := by
  unfold owns
  iintro ⟨H0, H1, H2, H3, H4, H5, H6, H7, ⟨%d8, %f8, -, H8⟩, ⟨%d9, %f9, -, H9⟩, ⟨%d10, %fs0, -, HS0⟩, HS1, Hk⟩
  iapply (run c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0).2.2 f8 f9 E K
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact dec_read c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0 h7 f8
  isplitl [H9]
  · iexists _; isplitr; swap; · iexact H9
    ipureintro; exact idx_read c i arg2 harg2 arg3 harg3 arg4 harg4 arg5 harg5 arg6 harg6 arg7 harg7 arg8 harg8 arg9 harg9 arg10 harg10 arg11 harg11 arg12 harg12 arg13 harg13 hc x0 x1 x2 x3 x4 x5 x6 x7 fs0 h7 f9
  isplitl [HS0]; · iexact HS0
  iexact HS1

end Cert.KernelIdeal.Body

end
-- ==== Proof.Entry.lean ====
module

public import proofs.«01_k».proof.Proof.Gen.KernelIdeal.Frame
public import proofs.«01_k».proof.Proof.Pixel
public import Idealize.ShloMosaic.Lib.Pointwise
public import Idealize.ShloMosaic.Lib.Pipeline.ValueKit

@[expose] public section

/-!
What the region finds: the shifted copies of the padded image, the weights as matrices, the quantiser's constants.
-/

set_option maxRecDepth 16384

noncomputable section

namespace Cert.KernelIdeal.Entry

open Cert.KernelIdeal.Gen
open Idealize.ShloMosaic Idealize.ShloMosaic.TcCoe Idealize.ShloMosaic.Tactic

variable (m : (ℓ : Loc nD τ sig) → Buf (Elt Ideal) ℓ)

/-! The arrays as the region finds them, from the arguments. -/

theorem entry_cst (c : Dev nD) : @Eq (Vec Ideal S4x6 .f32) (V m c main_call0_cst) (fun i => FloatOps.ofBits (F := Ideal) .f32 (lit0 (S4x6.rowMajor i))) := by
  dsimp only [V, V0, hostOps0, List.flatten_cons, List.flatten_nil, List.append_nil, List.cons_append, List.nil_append]
  after_results
  rfl

theorem entry_w1 (c : Dev nD) : @Eq (Vec Ideal S192x27 .bf16) (V m c main_call0_v6)
    (truncf (F := Ideal) .bf16 (shapeCast S192x27 (m ((c : Thread nD τ).loc main_arg1) : Vec Ideal S192x3x3x3 .f32) shapeCasts_S192x3x3x3_S192x27) bitsLt_bf16_f32) := by
  dsimp only [V, V0, hostOps0, List.flatten_cons, List.flatten_nil, List.append_nil, List.cons_append, List.nil_append]
  after_results
  rfl

theorem entry_w2 (c : Dev nD) : @Eq (Vec Ideal S4x192 .bf16) (V m c main_call0_v8)
    (truncf (F := Ideal) .bf16 (shapeCast S4x192 (m ((c : Thread nD τ).loc main_arg3) : Vec Ideal S4x192x1x1 .f32) shapeCasts_S4x192x1x1_S4x192) bitsLt_bf16_f32) := by
  dsimp only [V, V0, hostOps0, List.flatten_cons, List.flatten_nil, List.append_nil, List.cons_append, List.nil_append]
  after_results
  rfl

theorem entry_wd1 (c : Dev nD) : @Eq (Vec Ideal S192x4 .bf16) (V m c main_call0_v10)
    (truncf (F := Ideal) .bf16 (shapeCast S192x4 (m ((c : Thread nD τ).loc main_arg5) : Vec Ideal S192x4x1x1 .f32) shapeCasts_S192x4x1x1_S192x4) bitsLt_bf16_f32) := by
  dsimp only [V, V0, hostOps0, List.flatten_cons, List.flatten_nil, List.append_nil, List.cons_append, List.nil_append]
  after_results
  rfl

theorem entry_wd2 (c : Dev nD) : @Eq (Vec Ideal S27x192 .bf16) (V m c main_call0_v13)
    (truncf (F := Ideal) .bf16 (shapeCast S27x192 (transpose S3x3x3x192 [2, 3, 0, 1] (m ((c : Thread nD τ).loc main_arg7) : Vec Ideal S3x192x3x3 .f32) transposes_S3x192x3x3_S3x3x3x192_2_3_0_1) shapeCasts_S3x3x3x192_S27x192) bitsLt_bf16_f32) := by
  dsimp only [V, V0, hostOps0, List.flatten_cons, List.flatten_nil, List.append_nil, List.cons_append, List.nil_append]
  after_results
  rfl

/-- The padded image: two rows and columns of zeros before it, eight rows and two columns after it. -/
def padded (c : Dev nD) : Vec Ideal S4x3x234x228 .bf16 :=
  truncf (F := Ideal) .bf16 (pad S4x3x234x228 ![0, 0, 2, 2] ![0, 0, 8, 2] ![0, 0, 0, 0] (m ((c : Thread nD τ).loc main_arg0) : Vec Ideal S4x3x224x224 .f32) (sitofp (F := Ideal) .f32 (constantI S_ 32 0#32))
    pads_S4x3x224x224_S4x3x234x228_000_000_280_220 h_S_) bitsLt_bf16_f32

theorem entry_x0 (c : Dev nD) : @Eq (Vec Ideal S4x3x234x226 .bf16) (V m c main_call0_v2)
    (extractStridedSlice S4x3x234x226 ![0, 0, 0, 0] (padded m c) slices_S4x3x234x228_S4x3x234x226_0_0_0_0) := by
  dsimp only [V, V0, hostOps0, List.flatten_cons, List.flatten_nil, List.append_nil, List.cons_append, List.nil_append]
  after_results
  rfl

theorem entry_x1 (c : Dev nD) : @Eq (Vec Ideal S4x3x234x226 .bf16) (V m c main_call0_v3)
    (extractStridedSlice S4x3x234x226 ![0, 0, 0, 1] (padded m c) slices_S4x3x234x228_S4x3x234x226_0_0_0_1) := by
  dsimp only [V, V0, hostOps0, List.flatten_cons, List.flatten_nil, List.append_nil, List.cons_append, List.nil_append]
  after_results
  rfl

theorem entry_x2 (c : Dev nD) : @Eq (Vec Ideal S4x3x234x226 .bf16) (V m c main_call0_v4)
    (extractStridedSlice S4x3x234x226 ![0, 0, 0, 2] (padded m c) slices_S4x3x234x228_S4x3x234x226_0_0_0_2) := by
  dsimp only [V, V0, hostOps0, List.flatten_cons, List.flatten_nil, List.append_nil, List.cons_append, List.nil_append]
  after_results
  rfl

/-! The blocks at an index. -/

/-- The constants' block. -/
theorem consts (c : Dev nD) (t : Fin cfg0.N) (d : Fin 4) (j : Fin 6) : (iblk m c 7 t : Vec Ideal S4x6 .f32) (ix2 d j) = Pixel.fsq d j := by
  have e : (iblk m c 7 t : Vec Ideal S4x6 .f32) (ix2 d j) = (V m c main_call0_cst : Vec Ideal S4x6 .f32) (ix2 d j) := by
    blk_ext! [iblk, show win0_7.index t 0 = 0 from rfl, show win0_7.index t 1 = 0 from rfl]
  rw [e, entry_cst]
  fin_cases d <;> fin_cases j <;> rfl

/-- The encoder's first weights. -/
theorem w1 (c : Dev nD) (t : Fin cfg0.N) (k : Fin 192) (q : Fin 27) :
    (iblk m c 3 t : Vec Ideal S192x27 .bf16) (ix2 k q)
      = (m ((c : Thread nD τ).loc main_arg1) : Vec Ideal S192x3x3x3 .f32) (ix4 k (⟨q.val / 9, by omega⟩ : Fin 3) (⟨q.val / 3 % 3, by omega⟩ : Fin 3) (⟨q.val % 3, by omega⟩ : Fin 3)) := by
  have e : (iblk m c 3 t : Vec Ideal S192x27 .bf16) (ix2 k q) = (V m c main_call0_v6 : Vec Ideal S192x27 .bf16) (ix2 k q) := by
    blk_ext! [iblk, show win0_3.index t 0 = 0 from rfl, show win0_3.index t 1 = 0 from rfl]
  rw [e, entry_w1]
  pointwise

/-- Its second weights. -/
theorem w2 (c : Dev nD) (t : Fin cfg0.N) (d : Fin 4) (k : Fin 192) :
    (iblk m c 4 t : Vec Ideal S4x192 .bf16) (ix2 d k) = (m ((c : Thread nD τ).loc main_arg3) : Vec Ideal S4x192x1x1 .f32) (ix4 d k (0 : Fin 1) (0 : Fin 1)) := by
  have e : (iblk m c 4 t : Vec Ideal S4x192 .bf16) (ix2 d k) = (V m c main_call0_v8 : Vec Ideal S4x192 .bf16) (ix2 d k) := by
    blk_ext! [iblk, show win0_4.index t 0 = 0 from rfl, show win0_4.index t 1 = 0 from rfl]
  rw [e, entry_w2]
  pointwise

/-- The decoder's first weights. -/
theorem wd1 (c : Dev nD) (t : Fin cfg0.N) (k : Fin 192) (d : Fin 4) :
    (iblk m c 5 t : Vec Ideal S192x4 .bf16) (ix2 k d) = (m ((c : Thread nD τ).loc main_arg5) : Vec Ideal S192x4x1x1 .f32) (ix4 k d (0 : Fin 1) (0 : Fin 1)) := by
  have e : (iblk m c 5 t : Vec Ideal S192x4 .bf16) (ix2 k d) = (V m c main_call0_v10 : Vec Ideal S192x4 .bf16) (ix2 k d) := by
    blk_ext! [iblk, show win0_5.index t 0 = 0 from rfl, show win0_5.index t 1 = 0 from rfl]
  rw [e, entry_wd1]
  pointwise

/-- Its second weights, one row for each tap and channel. -/
theorem wd2 (c : Dev nD) (t : Fin cfg0.N) (r : Fin 27) (k : Fin 192) :
    (iblk m c 6 t : Vec Ideal S27x192 .bf16) (ix2 r k)
      = (m ((c : Thread nD τ).loc main_arg7) : Vec Ideal S3x192x3x3 .f32) (ix4 (⟨r.val % 3, by omega⟩ : Fin 3) k (⟨r.val / 9, by omega⟩ : Fin 3) (⟨r.val / 3 % 3, by omega⟩ : Fin 3)) := by
  have e : (iblk m c 6 t : Vec Ideal S27x192 .bf16) (ix2 r k) = (V m c main_call0_v13 : Vec Ideal S27x192 .bf16) (ix2 r k) := by
    blk_ext! [iblk, show win0_6.index t 0 = 0 from rfl, show win0_6.index t 1 = 0 from rfl]
  rw [e, entry_wd2]
  pointwise

/-- The image with its border, at a row and a column that count from two before the image. -/
def pixel (c : Dev nD) (b : Fin 4) (ch : Fin 3) (n s : ℕ) : EReal :=
  if h : (2 ≤ n ∧ n < 226) ∧ 2 ≤ s ∧ s < 226 then (m ((c : Thread nD τ).loc main_arg0) : Vec Ideal S4x3x224x224 .f32) (ix4 b ch (⟨n - 2, by omega⟩ : Fin 224) (⟨s - 2, by omega⟩ : Fin 224)) else 0

theorem padded_apply (c : Dev nD) (b : Fin 4) (ch : Fin 3) (n : Fin 234) (s : Fin 228) :
    padded m c (ix4 b ch n s) = pixel m c b ch n s := by
  unfold padded pixel
  pointwise
  split_ifs with h1 h2 h2
  · rfl
  · have a2 : 2 ≤ n.val ∧ (n.val - 2) % (0 + 1) = 0 ∧ (n.val - 2) / (0 + 1) < 224 := h1 2
    have a3 : 2 ≤ s.val ∧ (s.val - 2) % (0 + 1) = 0 ∧ (s.val - 2) / (0 + 1) < 224 := h1 3
    exact absurd ⟨⟨a2.1, by omega⟩, a3.1, by omega⟩ h2
  · refine absurd (fun a => ?_) h1
    fin_cases a <;> simp [ix4] <;> omega
  · show (((0#32 : BitVec 32).toInt : ℝ) : EReal) = 0
    rw [show (0#32 : BitVec 32).toInt = 0 from rfl, Int.cast_zero, EReal.coe_zero]

/-- The point's image. -/
def image (t : Fin cfg0.N) : Fin 4 := ⟨t.val, Nat.lt_of_lt_of_eq t.isLt N_0⟩

theorem index0 (t : Fin cfg0.N) : win0_0.index t 0 = t.val := by
  have ht : t.val < 4 := Nat.lt_of_lt_of_eq t.isLt N_0
  have e0 : (grid0.coords t 0).val = t.val / 1 % 4 := Pipeline.Grid.coords_val t 0 (by decide) rfl
  change BitVec.toNat (BitVec.ofNat 32 (grid0.coords t 0).val) = _
  rw [e0]
  simp
  omega

theorem x0 (c : Dev nD) (t : Fin cfg0.N) (ch : Fin 3) (n : Fin 234) (s : Fin 226) :
    (iblk m c 0 t : Vec Ideal S1x3x234x226 .bf16) (ix4 (0 : Fin 1) ch n s) = pixel m c (image t) ch n (s + 0) := by
  have e : (iblk m c 0 t : Vec Ideal S1x3x234x226 .bf16) (ix4 (0 : Fin 1) ch n s) = (V m c main_call0_v2 : Vec Ideal S4x3x234x226 .bf16) (ix4 (image t) ch n s) := by
    unfold image
    blk_ext! [iblk, index0 t, show win0_0.index t 1 = 0 from rfl, show win0_0.index t 2 = 0 from rfl, show win0_0.index t 3 = 0 from rfl]
  rw [e, entry_x0]
  refine Eq.trans ?_ (padded_apply m c (image t) ch n ⟨s + 0, by omega⟩)
  generalize padded m c = p
  pointwise

theorem index1 (t : Fin cfg0.N) : win0_1.index t 0 = t.val := by
  have ht : t.val < 4 := Nat.lt_of_lt_of_eq t.isLt N_0
  have e0 : (grid0.coords t 0).val = t.val / 1 % 4 := Pipeline.Grid.coords_val t 0 (by decide) rfl
  change BitVec.toNat (BitVec.ofNat 32 (grid0.coords t 0).val) = _
  rw [e0]
  simp
  omega

theorem x1 (c : Dev nD) (t : Fin cfg0.N) (ch : Fin 3) (n : Fin 234) (s : Fin 226) :
    (iblk m c 1 t : Vec Ideal S1x3x234x226 .bf16) (ix4 (0 : Fin 1) ch n s) = pixel m c (image t) ch n (s + 1) := by
  have e : (iblk m c 1 t : Vec Ideal S1x3x234x226 .bf16) (ix4 (0 : Fin 1) ch n s) = (V m c main_call0_v3 : Vec Ideal S4x3x234x226 .bf16) (ix4 (image t) ch n s) := by
    unfold image
    blk_ext! [iblk, index1 t, show win0_1.index t 1 = 0 from rfl, show win0_1.index t 2 = 0 from rfl, show win0_1.index t 3 = 0 from rfl]
  rw [e, entry_x1]
  refine Eq.trans ?_ (padded_apply m c (image t) ch n ⟨s + 1, by omega⟩)
  generalize padded m c = p
  pointwise
  simp only [Nat.add_comm 1 s.val]

theorem index2 (t : Fin cfg0.N) : win0_2.index t 0 = t.val := by
  have ht : t.val < 4 := Nat.lt_of_lt_of_eq t.isLt N_0
  have e0 : (grid0.coords t 0).val = t.val / 1 % 4 := Pipeline.Grid.coords_val t 0 (by decide) rfl
  change BitVec.toNat (BitVec.ofNat 32 (grid0.coords t 0).val) = _
  rw [e0]
  simp
  omega

theorem x2 (c : Dev nD) (t : Fin cfg0.N) (ch : Fin 3) (n : Fin 234) (s : Fin 226) :
    (iblk m c 2 t : Vec Ideal S1x3x234x226 .bf16) (ix4 (0 : Fin 1) ch n s) = pixel m c (image t) ch n (s + 2) := by
  have e : (iblk m c 2 t : Vec Ideal S1x3x234x226 .bf16) (ix4 (0 : Fin 1) ch n s) = (V m c main_call0_v4 : Vec Ideal S4x3x234x226 .bf16) (ix4 (image t) ch n s) := by
    unfold image
    blk_ext! [iblk, index2 t, show win0_2.index t 1 = 0 from rfl, show win0_2.index t 2 = 0 from rfl, show win0_2.index t 3 = 0 from rfl]
  rw [e, entry_x2]
  refine Eq.trans ?_ (padded_apply m c (image t) ch n ⟨s + 2, by omega⟩)
  generalize padded m c = p
  pointwise
  simp only [Nat.add_comm 2 s.val]

end Cert.KernelIdeal.Entry

end
-- ==== Proof.Launched.lean ====
module

public import proofs.«01_k».proof.Proof.Leaves
public import proofs.«01_k».proof.Proof.Entry

@[expose] public section

/-!
The launch: from the body's triple to the arrays the run leaves.
-/

set_option maxRecDepth 16384

noncomputable section

namespace Cert.KernelIdeal.Launched

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem onlyBand_coords (t : Fin cfg0.N) : onlyBand (grid0.coords t) := by
  have ht : t.val < 4 := Nat.lt_of_lt_of_eq t.isLt N_0
  have e1 : (grid0.coords t 1).val = t.val / 1 % 1 := Pipeline.Grid.coords_val t 1 (by decide) rfl
  simp only [onlyBand, e1]
  word_cmp

/-! The staging memrefs at a point, as the pipeline passes them, and the scratch. -/
abbrev stage0 (t : Fin cfg0.N) : Memref sig .tc .vmem S1x3x234x226 .bf16 := win0_0.stage (cfg0.slots t 0)
abbrev whole0 (t : Fin cfg0.N) : (stage0 t).IsWhole := hstage0_0 ((cfg0.slots t 0).cast nbuf0_0)
abbrev stage1 (t : Fin cfg0.N) : Memref sig .tc .vmem S1x3x234x226 .bf16 := win0_1.stage (cfg0.slots t 1)
abbrev whole1 (t : Fin cfg0.N) : (stage1 t).IsWhole := hstage0_1 ((cfg0.slots t 1).cast nbuf0_1)
abbrev stage2 (t : Fin cfg0.N) : Memref sig .tc .vmem S1x3x234x226 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S192x27 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S4x192 .bf16 := win0_4.stage (cfg0.slots t 4)
abbrev whole4 (t : Fin cfg0.N) : (stage4 t).IsWhole := hstage0_4 ((cfg0.slots t 4).cast nbuf0_4)
abbrev stage5 (t : Fin cfg0.N) : Memref sig .tc .vmem S192x4 .bf16 := win0_5.stage (cfg0.slots t 5)
abbrev whole5 (t : Fin cfg0.N) : (stage5 t).IsWhole := hstage0_5 ((cfg0.slots t 5).cast nbuf0_5)
abbrev stage6 (t : Fin cfg0.N) : Memref sig .tc .vmem S27x192 .bf16 := win0_6.stage (cfg0.slots t 6)
abbrev whole6 (t : Fin cfg0.N) : (stage6 t).IsWhole := hstage0_6 ((cfg0.slots t 6).cast nbuf0_6)
abbrev stage7 (t : Fin cfg0.N) : Memref sig .tc .vmem S4x6 .f32 := win0_7.stage (cfg0.slots t 7)
abbrev whole7 (t : Fin cfg0.N) : (stage7 t).IsWhole := hstage0_7 ((cfg0.slots t 7).cast nbuf0_7)
abbrev stage8 (t : Fin cfg0.N) : Memref sig .tc .vmem S1x3x224x224 .f32 := win0_8.stage (cfg0.slots t 8)
abbrev whole8 (t : Fin cfg0.N) : (stage8 t).IsWhole := hstage0_8 ((cfg0.slots t 8).cast nbuf0_8)
abbrev stage9 (t : Fin cfg0.N) : Memref sig .tc .vmem S1x224x224 .i32 := win0_9.stage (cfg0.slots t 9)
abbrev whole9 (t : Fin cfg0.N) : (stage9 t).IsWhole := hstage0_9 ((cfg0.slots t 9).cast nbuf0_9)
abbrev taps : Memref sig .tc .vmem S27x58112 .f32 := Memref.whole cc0_scratch0
abbrev patches : Memref sig .tc .vmem S27x4096 .bf16 := Memref.whole cc0_scratch1

theorem invariant_eq (c : Dev nD) :
    (Pipeline.ΦA spec0 c : sProp 𝕄)
      = iprop(iprop((∃ d, owns (c : Thread nD τ) taps fullShare d) ∗ (∃ d, owns (c : Thread nD τ) patches fullShare d)) ∗ (∃ r, prngReg c r)) := by
  unfold Pipeline.ΦA; rw [scopedRest0_eq]; simp only [taps, patches, owns_whole]; try rfl

/-- The blocks the body leaves at a point. -/
def decOf (c : Dev nD) (t : Fin cfg0.N) : Vec Ideal S1x3x224x224 .f32 :=
  Spec.decBlk ![iblk m c 0 t, iblk m c 1 t, iblk m c 2 t] (iblk m c 3 t) (iblk m c 4 t) (iblk m c 5 t) (iblk m c 6 t)
def idxOf (c : Dev nD) (t : Fin cfg0.N) : Vec Ideal S1x224x224 .i32 :=
  Spec.idxBlk ![iblk m c 0 t, iblk m c 1 t, iblk m c 2 t] (iblk m c 3 t) (iblk m c 4 t)

/-- The proof data: the arrays as the region finds them, each input's block unchanged by the body, the two results at
    what it computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => decOf m c t
    | ⟨9, _⟩ => idxOf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = decOf m c t := by dsimp only [dats]
theorem after_9 (c : Dev nD) (t : Fin cfg0.N) : (dats m 0 c).after 9 t = idxOf m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t))

set_option maxHeartbeats 1200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, invariant_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (leaves c (grid0.coords t) _ _ _ _ _ _ _ _ _ _ _ _ _ _ _ _ _ _ _ _ _ _ _ _ (onlyBand_coords t) (iblk m c 0 t) (iblk m c 1 t) (iblk m c 2 t) (iblk m c 3 t) (iblk m c 4 t) (iblk m c 5 t) (iblk m c 6 t) (iblk m c 7 t) (Entry.consts m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the launch: what every final state holds, and that no semaphore counter is left up. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Launched

end
-- ==== Proof.RefValue.lean ====
module

public import proofs.«01_k».proof.Proof.Gen.ReferenceIdeal.Run
public import proofs.«01_k».proof.Proof.Pixel
public import Idealize.ShloMosaic.Lib.Pointwise
public import Mathlib.Tactic.Abel

@[expose] public section

/-!
The reference's results, read at an index.
-/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic

variable (V0 : Valuation τ sig (Elt Ideal))

theorem tap3_apply (ky kx : Fin 3) (hs : S4x3x226x226.Slices ![0, 0, ky.val, kx.val] S4x3x224x224) (hw : S192x3x3x3.Slices ![0, 0, ky.val, kx.val] S192x3x1x1)
    (u : FVec Ideal S4x3x226x226 .f32) (w : FVec Ideal S192x3x3x3 .f32) (b : Fin 4) (k : Fin 192) (y x : Fin 224) :
    transpose S4x192x224x224 [0, 3, 1, 2] (Host.dotGeneral dot_S4x3x224x224_S192x3_S4x224x224x192_1_1_023_0_n_n none
      (extractStridedSlice S4x3x224x224 ![0, 0, ky.val, kx.val] u hs)
      (shapeCast S192x3 (extractStridedSlice S192x3x1x1 ![0, 0, ky.val, kx.val] w hw) shapeCasts_S192x3x1x1_S192x3)) transposes_S4x224x224x192_S4x192x224x224_0_3_1_2 (ix4 b k y x)
      = ∑ c : Fin 3, u (ix4 b c (⟨ky.val + y.val, by omega⟩ : Fin 226) (⟨kx.val + x.val, by omega⟩ : Fin 226)) * w (ix4 k c ky kx) := by
  pointwise

theorem tap192_apply (ky kx : Fin 3) (hs : S4x192x226x226.Slices ![0, 0, ky.val, kx.val] S4x192x224x224) (hw : S3x192x3x3.Slices ![0, 0, ky.val, kx.val] S3x192x1x1)
    (u : FVec Ideal S4x192x226x226 .f32) (w : FVec Ideal S3x192x3x3 .f32) (b : Fin 4) (k : Fin 3) (y x : Fin 224) :
    transpose S4x3x224x224 [0, 3, 1, 2] (Host.dotGeneral dot_S4x192x224x224_S3x192_S4x224x224x3_1_1_023_0_n_n none
      (extractStridedSlice S4x192x224x224 ![0, 0, ky.val, kx.val] u hs)
      (shapeCast S3x192 (extractStridedSlice S3x192x1x1 ![0, 0, ky.val, kx.val] w hw) shapeCasts_S3x192x1x1_S3x192)) transposes_S4x224x224x3_S4x3x224x224_0_3_1_2 (ix4 b k y x)
      = ∑ c : Fin 192, u (ix4 b c (⟨ky.val + y.val, by omega⟩ : Fin 226) (⟨kx.val + x.val, by omega⟩ : Fin 226)) * w (ix4 k c ky kx) := by
  pointwise

/-- A sum over the 27 inputs of a window, tap by tap. -/
theorem sum27 (g : Fin 3 → Fin 3 → Fin 3 → EReal) :
    (∑ q : Fin 27, g ⟨q.val / 9, by omega⟩ ⟨q.val / 3 % 3, by omega⟩ ⟨q.val % 3, by omega⟩)
      = (∑ c, g c 0 0) + (∑ c, g c 0 1) + (∑ c, g c 0 2) + (∑ c, g c 1 0) + (∑ c, g c 1 1) + (∑ c, g c 1 2)
        + (∑ c, g c 2 0) + (∑ c, g c 2 1) + (∑ c, g c 2 2) := by
  have e (F : Fin 27 → EReal) : (∑ q, F q) = F 0 + (F 1 + (F 2 + (F 3 + (F 4 + (F 5 + (F 6 + (F 7 + (F 8 + (F 9 + (F 10 + (F 11 + (F 12 + (F 13 + (F 14 + (F 15 + (F 16 + (F 17 + (F 18 + (F 19 + (F 20 + (F 21 + (F 22 + (F 23 + (F 24 + (F 25 + (F 26)))))))))))))))))))))))))) := by
    simp only [Fin.sum_univ_succ, Finset.univ_eq_empty, Finset.sum_empty, add_zero]
    rfl
  rw [e]
  simp only [Fin.sum_univ_three]
  change g 0 0 0 + (g 0 0 1 + (g 0 0 2 + (g 0 1 0 + (g 0 1 1 + (g 0 1 2 + (g 0 2 0 + (g 0 2 1 + (g 0 2 2 + (g 1 0 0 + (g 1 0 1 + (g 1 0 2 + (g 1 1 0 + (g 1 1 1 + (g 1 1 2 + (g 1 2 0 + (g 1 2 1 + (g 1 2 2 + (g 2 0 0 + (g 2 0 1 + (g 2 0 2 + (g 2 1 0 + (g 2 1 1 + (g 2 1 2 + (g 2 2 0 + (g 2 2 1 + (g 2 2 2)))))))))))))))))))))))))) = _
  abel

theorem lit0_word (d : Fin 4) : lit0 (S4.rowMajor (ix1 d)) = Pixel.fsqWord d 2 := by fin_cases d <;> rfl
theorem lit1_word (d : Fin 4) : lit1 (S4.rowMajor (ix1 d)) = Pixel.fsqWord d 0 := by fin_cases d <;> rfl
theorem lit2_word (d : Fin 4) : lit2 (S4.rowMajor (ix1 d)) = Pixel.fsqWord d 1 := by fin_cases d <;> rfl

/-- Half a level, rounded down. -/
theorem half_width (d : Fin 4) : res_main_v83 V0 (ix1 d) = Pixel.fsq d 3 := by
  unfold res_main_v83
  pointwise
  have e2 : Ideal.ofBits FTy.f32 1073741824#32 = ((2 : ℝ) : EReal) := by
    simp [Ideal.ofBits, Ideal.ieee, -EReal.coe_mul]; norm_num
  have e0 : ((2 : ℝ) : EReal) ≠ 0 := by norm_num
  have e (n : ℝ) : Ideal.div ((n : ℝ) : EReal) ((2 : ℝ) : EReal) = ((n / 2 : ℝ) : EReal) := by
    rw [Ideal.div, if_neg e0, ← EReal.coe_inv, ← EReal.coe_mul, div_eq_mul_inv]
  have e8 : Ideal.ofBits .f32 0x41000000#32 = ((8 : ℝ) : EReal) := by
    simp [Ideal.ofBits, Ideal.ieee, -EReal.coe_mul]; norm_num
  have e5 : Ideal.ofBits .f32 0x40A00000#32 = ((5 : ℝ) : EReal) := by
    simp [Ideal.ofBits, Ideal.ieee, -EReal.coe_mul]; norm_num
  rw [e2, Pixel.fsq_hw]
  have l0 : Ideal.liftRound Int.floor ((8 / 2 : ℝ) : EReal) = (((4 : ℤ) : ℝ) : EReal) := by
    change (((⌊(8 / 2 : ℝ)⌋ : ℤ) : ℝ) : EReal) = _
    norm_num
  have l1 : Ideal.liftRound Int.floor ((5 / 2 : ℝ) : EReal) = (((2 : ℤ) : ℝ) : EReal) := by
    change (((⌊(5 / 2 : ℝ)⌋ : ℤ) : ℝ) : EReal) = _
    norm_num
  fin_cases d
  · exact (congrArg _ ((congrArg (Ideal.div · _) e8).trans (e 8))).trans l0
  all_goals exact (congrArg _ ((congrArg (Ideal.div · _) e5).trans (e 5))).trans l1

theorem zero_word : (FloatOps.sitofp FTy.f32 0#32 : Ideal .f32) = (0 : EReal) := by
  show (((0#32 : BitVec 32).toInt : ℝ) : EReal) = 0
  rw [show (0#32 : BitVec 32).toInt = 0 from rfl, Int.cast_zero, EReal.coe_zero]

/-- The padded image, as an expression in the image. -/
theorem pad_of (a0 : FVec Ideal S4x3x224x224 .f32) (b : Fin 4) (c : Fin 3) (n s : Fin 226) :
    pad S4x3x226x226 ![0, 0, 1, 1] ![0, 0, 1, 1] ![0, 0, 0, 0] a0 (sitofp .f32 (constantI S_ 32 0#32)) pads_S4x3x224x224_S4x3x226x226_000_000_110_110 h_S_ (ix4 b c n s)
      = if h : (1 ≤ n.val ∧ n.val < 225) ∧ 1 ≤ s.val ∧ s.val < 225 then a0 (ix4 b c (⟨n.val - 1, by omega⟩ : Fin 224) (⟨s.val - 1, by omega⟩ : Fin 224)) else (0 : EReal) := by
  pointwise
  split_ifs with h1 h2 h2
  · rfl
  · omega
  · omega
  · exact zero_word

/-- The first convolution, as an expression in the padded image and the weights. -/
theorem hidden_of (u : FVec Ideal S4x3x226x226 .f32) (a1 : FVec Ideal S192x3x3x3 .f32) (b : Fin 4) (k : Fin 192) (y x : Fin 224) :
    addf (addf (addf (addf (addf (addf (addf (addf (addf (broadcastInDim S4x192x224x224 ![] bcast_S_S4x192x224x224 (constant S_ .f32 0x00000000#32)) (transpose S4x192x224x224 [0, 3, 1, 2] (Host.dotGeneral dot_S4x3x224x224_S192x3_S4x224x224x192_1_1_023_0_n_n none (extractStridedSlice S4x3x224x224 ![0, 0, 0, 0] u slices_S4x3x226x226_S4x3x224x224_0_0_0_0) (shapeCast _ (extractStridedSlice S192x3x1x1 ![0, 0, 0, 0] a1 slices_S192x3x3x3_S192x3x1x1_0_0_0_0) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 0, 1] u slices_S4x3x226x226_S4x3x224x224_0_0_0_1) (shapeCast _ (extractStridedSlice S192x3x1x1 ![0, 0, 0, 1] a1 slices_S192x3x3x3_S192x3x1x1_0_0_0_1) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 0, 2] u slices_S4x3x226x226_S4x3x224x224_0_0_0_2) (shapeCast _ (extractStridedSlice S192x3x1x1 ![0, 0, 0, 2] a1 slices_S192x3x3x3_S192x3x1x1_0_0_0_2) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 1, 0] u slices_S4x3x226x226_S4x3x224x224_0_0_1_0) (shapeCast _ (extractStridedSlice S192x3x1x1 ![0, 0, 1, 0] a1 slices_S192x3x3x3_S192x3x1x1_0_0_1_0) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 1, 1] u slices_S4x3x226x226_S4x3x224x224_0_0_1_1) (shapeCast _ (extractStridedSlice S192x3x1x1 ![0, 0, 1, 1] a1 slices_S192x3x3x3_S192x3x1x1_0_0_1_1) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 1, 2] u slices_S4x3x226x226_S4x3x224x224_0_0_1_2) (shapeCast _ (extractStridedSlice S192x3x1x1 ![0, 0, 1, 2] a1 slices_S192x3x3x3_S192x3x1x1_0_0_1_2) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 2, 0] u slices_S4x3x226x226_S4x3x224x224_0_0_2_0) (shapeCast _ (extractStridedSlice S192x3x1x1 ![0, 0, 2, 0] a1 slices_S192x3x3x3_S192x3x1x1_0_0_2_0) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 2, 1] u slices_S4x3x226x226_S4x3x224x224_0_0_2_1) (shapeCast _ (extractStridedSlice S192x3x1x1 ![0, 0, 2, 1] a1 slices_S192x3x3x3_S192x3x1x1_0_0_2_1) shapeCasts_S192x3x1x1_S192x3)) transposes_S4x224x224x192_S4x192x224x224_0_3_1_2)) (transpose S4x192x224x224 [0, 3, 1, 2] (Host.dotGeneral dot_S4x3x224x224_S192x3_S4x224x224x192_1_1_023_0_n_n none (extractStridedSlice S4x3x224x224 ![0, 0, 2, 2] u slices_S4x3x226x226_S4x3x224x224_0_0_2_2) (shapeCast _ (extractStridedSlice S192x3x1x1 ![0, 0, 2, 2] a1 slices_S192x3x3x3_S192x3x1x1_0_0_2_2) shapeCasts_S192x3x1x1_S192x3)) transposes_S4x224x224x192_S4x192x224x224_0_3_1_2) (ix4 b k y x)
      = ∑ q : Fin 27, a1 (ix4 k (⟨q.val / 9, by omega⟩ : Fin 3) (⟨q.val / 3 % 3, by omega⟩ : Fin 3) (⟨q.val % 3, by omega⟩ : Fin 3)) * u (ix4 b (⟨q.val / 9, by omega⟩ : Fin 3) (⟨q.val / 3 % 3 + y.val, by omega⟩ : Fin 226) (⟨q.val % 3 + x.val, by omega⟩ : Fin 226)) := by
  refine Eq.trans ?_ (sum27 fun c ky kx => a1 (ix4 k c ky kx) * u (ix4 b c (⟨ky.val + y.val, by omega⟩ : Fin 226) (⟨kx.val + x.val, by omega⟩ : Fin 226))).symm
  simp only [mul_comm (a1 _) _]
  have e {u v : FVec Ideal S4x192x224x224 .f32} {a c : EReal} (i : S4x192x224x224.Idx) (hu : u i = a) (hv : v i = c) : addf u v i = a + c := congrArg₂ (· + ·) hu hv
  have t (ky kx : Fin 3) (hs : S4x3x226x226.Slices ![0, 0, ky.val, kx.val] S4x3x224x224) (hw : S192x3x3x3.Slices ![0, 0, ky.val, kx.val] S192x3x1x1) := tap3_apply ky kx hs hw u a1 b k y x
  refine Eq.trans (e _ (e _ (e _ (e _ (e _ (e _ (e _ (e _ (e _ (show _ = (0 : EReal) from Ideal.ofBits_zero_f32) (t 0 0 _ _)) (t 0 1 _ _)) (t 0 2 _ _)) (t 1 0 _ _)) (t 1 1 _ _)) (t 1 2 _ _)) (t 2 0 _ _)) (t 2 1 _ _)) (t 2 2 _ _)) ?_
  simp only [zero_add]

/-- The bounded codes, as an expression in the first convolution. -/
theorem bounded_of (u : FVec Ideal S4x192x224x224 .f32) (a2 : FVec Ideal S192 .f32) (a3 : FVec Ideal S4x192x1x1 .f32) (a4 : FVec Ideal S4 .f32) (b : Fin 4) (y x : Fin 224) (d : Fin 4) :
    subf (mulf (Host.tanh (addf (transpose S4x224x224x4 [0, 2, 3, 1] (addf (transpose S4x4x224x224 [0, 3, 1, 2] (Host.dotGeneral dot_S4x192x224x224_S4x192_S4x224x224x4_1_1_023_0_n_n none (maximumf (addf u (broadcastInDim S4x192x224x224 ![0, 1, 2, 3] bcast_S1x192x1x1_S4x192x224x224_0_1_2_3 (broadcastInDim S1x192x1x1 ![1] bcast_S192_S1x192x1x1_1 a2))) (broadcastInDim S4x192x224x224 ![] bcast_S_S4x192x224x224 (constant S_ .f32 0x00000000#32))) (shapeCast _ a3 shapeCasts_S4x192x1x1_S4x192)) transposes_S4x224x224x4_S4x4x224x224_0_3_1_2) (broadcastInDim S4x4x224x224 ![0, 1, 2, 3] bcast_S1x4x1x1_S4x4x224x224_0_1_2_3 (broadcastInDim S1x4x1x1 ![1] bcast_S4_S1x4x1x1_1 a4))) transposes_S4x4x224x224_S4x224x224x4_0_2_3_1) (broadcastInDim S4x224x224x4 ![0, 1, 2, 3] bcast_S1x1x1x4_S4x224x224x4_0_1_2_3 (broadcastInDim S1x1x1x4 ![3] bcast_S4_S1x1x1x4_3 ((fun i => FloatOps.ofBits .f32 (lit0 (S4.rowMajor i)))))))) (broadcastInDim S4x224x224x4 ![0, 1, 2, 3] bcast_S1x1x1x4_S4x224x224x4_0_1_2_3 (broadcastInDim S1x1x1x4 ![3] bcast_S4_S1x1x1x4_3 ((fun i => FloatOps.ofBits .f32 (lit1 (S4.rowMajor i))))))) (broadcastInDim S4x224x224x4 ![0, 1, 2, 3] bcast_S1x1x1x4_S4x224x224x4_0_1_2_3 (broadcastInDim S1x1x1x4 ![3] bcast_S4_S1x1x1x4_3 ((fun i => FloatOps.ofBits .f32 (lit2 (S4.rowMajor i)))))) (ix4 b y x d)
      = Ideal.tanh ((∑ k : Fin 192, max (u (ix4 b k y x) + a2 (ix1 k)) 0 * a3 (ix4 d k (0 : Fin 1) (0 : Fin 1))) + a4 (ix1 d) + Pixel.fsq d 2) * Pixel.fsq d 0 - Pixel.fsq d 1 := by
  pointwise
  rw [lit0_word, lit1_word, lit2_word]
  rfl

/-- The decoder's hidden layer, as an expression in the codes. -/
theorem border_of (h h' : FVec Ideal S4x224x224x4 .f32) (g : FVec Ideal S4 .f32) (a5 : FVec Ideal S192x4x1x1 .f32) (a6 : FVec Ideal S192 .f32) (b : Fin 4) (k : Fin 192) (n s : Fin 226) :
    pad S4x192x226x226 ![0, 0, 1, 1] ![0, 0, 1, 1] ![0, 0, 0, 0] (maximumf (addf (transpose S4x192x224x224 [0, 3, 1, 2] (Host.dotGeneral dot_S4x4x224x224_S192x4_S4x224x224x192_1_1_023_0_n_n none (transpose S4x4x224x224 [0, 3, 1, 2] (Host.divf (addf h (subf h' h)) (broadcastInDim S4x224x224x4 ![0, 1, 2, 3] bcast_S1x1x1x4_S4x224x224x4_0_1_2_3 (broadcastInDim S1x1x1x4 ![3] bcast_S4_S1x1x1x4_3 g))) transposes_S4x224x224x4_S4x4x224x224_0_3_1_2) (shapeCast _ a5 shapeCasts_S192x4x1x1_S192x4)) transposes_S4x224x224x192_S4x192x224x224_0_3_1_2) (broadcastInDim S4x192x224x224 ![0, 1, 2, 3] bcast_S1x192x1x1_S4x192x224x224_0_1_2_3 (broadcastInDim S1x192x1x1 ![1] bcast_S192_S1x192x1x1_1 a6))) (broadcastInDim S4x192x224x224 ![] bcast_S_S4x192x224x224 (constant S_ .f32 0x00000000#32))) (sitofp .f32 (constantI S_ 32 0#32)) pads_S4x192x224x224_S4x192x226x226_000_000_110_110 h_S_ (ix4 b k n s)
      = if hi : (1 ≤ n.val ∧ n.val ≤ 224) ∧ 1 ≤ s.val ∧ s.val ≤ 224 then
          max ((∑ d : Fin 4, Ideal.div (h (ix4 b (⟨n.val - 1, by omega⟩ : Fin 224) (⟨s.val - 1, by omega⟩ : Fin 224) d) + (h' (ix4 b (⟨n.val - 1, by omega⟩ : Fin 224) (⟨s.val - 1, by omega⟩ : Fin 224) d) - h (ix4 b (⟨n.val - 1, by omega⟩ : Fin 224) (⟨s.val - 1, by omega⟩ : Fin 224) d))) (g (ix1 d)) * a5 (ix4 k d (0 : Fin 1) (0 : Fin 1))) + a6 (ix1 k)) (0 : EReal) else (0 : EReal) := by
  pointwise
  split_ifs with h1 h2 h2
  · rfl
  · omega
  · omega
  · exact zero_word

/-- The last convolution, as an expression in the decoder's hidden layer. -/
theorem decoded_of (u : FVec Ideal S4x192x226x226 .f32) (a7 : FVec Ideal S3x192x3x3 .f32) (a8 : FVec Ideal S3 .f32) (b : Fin 4) (o : Fin 3) (y x : Fin 224) :
    addf (addf (addf (addf (addf (addf (addf (addf (addf (addf (broadcastInDim S4x3x224x224 ![] bcast_S_S4x3x224x224 (constant S_ .f32 0x00000000#32)) (transpose S4x3x224x224 [0, 3, 1, 2] (Host.dotGeneral dot_S4x192x224x224_S3x192_S4x224x224x3_1_1_023_0_n_n none (extractStridedSlice S4x192x224x224 ![0, 0, 0, 0] u slices_S4x192x226x226_S4x192x224x224_0_0_0_0) (shapeCast _ (extractStridedSlice S3x192x1x1 ![0, 0, 0, 0] a7 slices_S3x192x3x3_S3x192x1x1_0_0_0_0) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 0, 1] u slices_S4x192x226x226_S4x192x224x224_0_0_0_1) (shapeCast _ (extractStridedSlice S3x192x1x1 ![0, 0, 0, 1] a7 slices_S3x192x3x3_S3x192x1x1_0_0_0_1) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 0, 2] u slices_S4x192x226x226_S4x192x224x224_0_0_0_2) (shapeCast _ (extractStridedSlice S3x192x1x1 ![0, 0, 0, 2] a7 slices_S3x192x3x3_S3x192x1x1_0_0_0_2) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 1, 0] u slices_S4x192x226x226_S4x192x224x224_0_0_1_0) (shapeCast _ (extractStridedSlice S3x192x1x1 ![0, 0, 1, 0] a7 slices_S3x192x3x3_S3x192x1x1_0_0_1_0) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 1, 1] u slices_S4x192x226x226_S4x192x224x224_0_0_1_1) (shapeCast _ (extractStridedSlice S3x192x1x1 ![0, 0, 1, 1] a7 slices_S3x192x3x3_S3x192x1x1_0_0_1_1) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 1, 2] u slices_S4x192x226x226_S4x192x224x224_0_0_1_2) (shapeCast _ (extractStridedSlice S3x192x1x1 ![0, 0, 1, 2] a7 slices_S3x192x3x3_S3x192x1x1_0_0_1_2) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 2, 0] u slices_S4x192x226x226_S4x192x224x224_0_0_2_0) (shapeCast _ (extractStridedSlice S3x192x1x1 ![0, 0, 2, 0] a7 slices_S3x192x3x3_S3x192x1x1_0_0_2_0) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 2, 1] u slices_S4x192x226x226_S4x192x224x224_0_0_2_1) (shapeCast _ (extractStridedSlice S3x192x1x1 ![0, 0, 2, 1] a7 slices_S3x192x3x3_S3x192x1x1_0_0_2_1) shapeCasts_S3x192x1x1_S3x192)) transposes_S4x224x224x3_S4x3x224x224_0_3_1_2)) (transpose S4x3x224x224 [0, 3, 1, 2] (Host.dotGeneral dot_S4x192x224x224_S3x192_S4x224x224x3_1_1_023_0_n_n none (extractStridedSlice S4x192x224x224 ![0, 0, 2, 2] u slices_S4x192x226x226_S4x192x224x224_0_0_2_2) (shapeCast _ (extractStridedSlice S3x192x1x1 ![0, 0, 2, 2] a7 slices_S3x192x3x3_S3x192x1x1_0_0_2_2) shapeCasts_S3x192x1x1_S3x192)) transposes_S4x224x224x3_S4x3x224x224_0_3_1_2)) (broadcastInDim S4x3x224x224 ![0, 1, 2, 3] bcast_S1x3x1x1_S4x3x224x224_0_1_2_3 (broadcastInDim S1x3x1x1 ![1] bcast_S3_S1x3x1x1_1 a8)) (ix4 b o y x)
      = (let T (ky kx : Fin 3) : EReal := ∑ c : Fin 192, u (ix4 b c (⟨ky.val + y.val, by omega⟩ : Fin 226) (⟨kx.val + x.val, by omega⟩ : Fin 226)) * a7 (ix4 o c ky kx)
        T 0 0 + T 0 1 + T 0 2 + T 1 0 + T 1 1 + T 1 2 + T 2 0 + T 2 1 + T 2 2 + a8 (ix1 o)) := by
  have e {u v : FVec Ideal S4x3x224x224 .f32} {a c : EReal} (i : S4x3x224x224.Idx) (hu : u i = a) (hv : v i = c) : addf u v i = a + c := congrArg₂ (· + ·) hu hv
  have hz : broadcastInDim S4x3x224x224 ![0, 1, 2, 3] bcast_S1x3x1x1_S4x3x224x224_0_1_2_3 (broadcastInDim S1x3x1x1 ![1] bcast_S3_S1x3x1x1_1 a8) (ix4 b o y x) = a8 (ix1 o) := by
    pointwise
  have t (ky kx : Fin 3) (hs : S4x192x226x226.Slices ![0, 0, ky.val, kx.val] S4x192x224x224) (hw : S3x192x3x3.Slices ![0, 0, ky.val, kx.val] S3x192x1x1) := tap192_apply ky kx hs hw u a7 b o y x
  refine Eq.trans (e _ (e _ (e _ (e _ (e _ (e _ (e _ (e _ (e _ (e _ (show _ = (0 : EReal) from Ideal.ofBits_zero_f32) (t 0 0 _ _)) (t 0 1 _ _)) (t 0 2 _ _)) (t 1 0 _ _)) (t 1 1 _ _)) (t 1 2 _ _)) (t 2 0 _ _)) (t 2 1 _ _)) (t 2 2 _ _)) hz) ?_
  simp only [zero_add]

/-- The arrays, as functions of their coordinates. -/
abbrev W1 (k : Fin 192) (q : Fin 27) : EReal :=
  (V0 (Proc.devRef .tc main_arg1) : FVec Ideal S192x3x3x3 .f32) (ix4 k (⟨q.val / 9, by omega⟩ : Fin 3) (⟨q.val / 3 % 3, by omega⟩ : Fin 3) (⟨q.val % 3, by omega⟩ : Fin 3))
abbrev W2 (d : Fin 4) (k : Fin 192) : EReal := (V0 (Proc.devRef .tc main_arg3) : FVec Ideal S4x192x1x1 .f32) (ix4 d k (0 : Fin 1) (0 : Fin 1))
abbrev WD1 (k : Fin 192) (d : Fin 4) : EReal := (V0 (Proc.devRef .tc main_arg5) : FVec Ideal S192x4x1x1 .f32) (ix4 k d (0 : Fin 1) (0 : Fin 1))
abbrev WD2 (r : Fin 27) (k : Fin 192) : EReal :=
  (V0 (Proc.devRef .tc main_arg7) : FVec Ideal S3x192x3x3 .f32) (ix4 (⟨r.val % 3, by omega⟩ : Fin 3) k (⟨r.val / 9, by omega⟩ : Fin 3) (⟨r.val / 3 % 3, by omega⟩ : Fin 3))

/-- The image with its border of one pixel. -/
def padded (b : Fin 4) (c : Fin 3) (n s : ℕ) : EReal :=
  if h : (1 ≤ n ∧ n < 225) ∧ 1 ≤ s ∧ s < 225 then (V0 (Proc.devRef .tc main_arg0) : FVec Ideal S4x3x224x224 .f32) (ix4 b c (⟨n - 1, by omega⟩ : Fin 224) (⟨s - 1, by omega⟩ : Fin 224)) else 0

theorem padded_apply (b : Fin 4) (c : Fin 3) (n s : Fin 226) :
    (res_main_v0 V0 : FVec Ideal S4x3x226x226 .f32) (ix4 b c n s) = padded V0 b c n s :=
  pad_of _ b c n s

/-- The window of a pixel. -/
def window (b : Fin 4) (y x : ℕ) (q : Fin 27) : EReal := padded V0 b ⟨q.val / 9, by omega⟩ (q.val / 3 % 3 + y) (q.val % 3 + x)

/-- The encoder at a pixel. -/
def codes (b : Fin 4) (y x : ℕ) : Fin 4 → EReal := Pixel.enc (W1 V0) (W2 V0) (window V0 b y x)

abbrev B1 (k : Fin 192) : EReal := (V0 (Proc.devRef .tc main_arg2) : FVec Ideal S192 .f32) (ix1 k)
abbrev B2 (k : Fin 4) : EReal := (V0 (Proc.devRef .tc main_arg4) : FVec Ideal S4 .f32) (ix1 k)
abbrev B3 (k : Fin 192) : EReal := (V0 (Proc.devRef .tc main_arg6) : FVec Ideal S192 .f32) (ix1 k)
abbrev B4 (k : Fin 3) : EReal := (V0 (Proc.devRef .tc main_arg8) : FVec Ideal S3 .f32) (ix1 k)
abbrev K1 (k : Fin 192) (c ky kx : Fin 3) : EReal := (V0 (Proc.devRef .tc main_arg1) : FVec Ideal S192x3x3x3 .f32) (ix4 k c ky kx)

/-- The biases are zero. -/
structure NoBias : Prop where
  enc1 (k : Fin 192) : B1 V0 k = 0
  enc2 (k : Fin 4) : B2 V0 k = 0
  dec1 (k : Fin 192) : B3 V0 k = 0
  dec2 (k : Fin 3) : B4 V0 k = 0

theorem hidden (b : Fin 4) (k : Fin 192) (y x : Fin 224) :
    (res_main_v55 V0 : FVec Ideal S4x192x224x224 .f32) (ix4 b k y x) = ∑ q : Fin 27, W1 V0 k q * window V0 b y x q :=
  (hidden_of _ _ b k y x).trans (Finset.sum_congr rfl fun q _ => congrArg (W1 V0 k q * ·) (padded_apply V0 b _ _ _))

variable {V0} (hb : NoBias V0)
include hb

theorem bounded_apply (b : Fin 4) (y x : Fin 224) (d : Fin 4) :
    (res_main_v77 V0 : FVec Ideal S4x224x224x4 .f32) (ix4 b y x d) = Pixel.bounded (codes V0 b y x) d := by
  refine (bounded_of _ _ _ _ b y x d).trans ?_
  refine congrArg (fun z => Ideal.tanh (z + Pixel.fsq d 2) * Pixel.fsq d 0 - Pixel.fsq d 1) ?_
  refine Eq.trans (congrArg₂ (· + ·) (Finset.sum_congr rfl fun k _ => ?_) (hb.enc2 d)) (add_zero (∑ k : Fin 192, W2 V0 d k * max (∑ q : Fin 27, W1 V0 k q * window V0 b y x q) 0))
  refine (mul_comm _ _).trans ?_
  exact congrArg (fun z : EReal => W2 V0 d k * max z 0) ((congrArg₂ (fun p q : EReal => p + q) (hidden V0 b k y x) (hb.enc1 k)).trans (add_zero _))

theorem rounded_apply (b : Fin 4) (y x : Fin 224) (d : Fin 4) :
    (res_main_v78 V0 : FVec Ideal S4x224x224x4 .f32) (ix4 b y x d) = Pixel.rnd (codes V0 b y x) d :=
  congrArg (Ideal.liftRound Ideal.roundHalfEven) (bounded_apply hb b y x d)

omit hb in
theorem fold4 (f : Fin 4 → BitVec 32) : Finset.fold IntOp.addi 0#32 f Finset.univ = f 0 + (f 1 + (f 2 + (f 3 + 0#32))) := rfl

omit hb in
theorem words_of (h : FVec Ideal S4x224x224x4 .f32) (h' : FVec Ideal S4 .f32) (b : Fin 4) (y x : Fin 224) :
    Host.reduce IntOp.addi (muli (fptosi 32 (addf h (broadcastInDim S4x224x224x4 ![0, 1, 2, 3] bcast_S1x1x1x4_S4x224x224x4_0_1_2_3 (broadcastInDim S1x1x1x4 ![3] bcast_S4_S1x1x1x4_3 h')))) (broadcastInDim S4x224x224x4 ![0, 1, 2, 3] bcast_S1x1x1x4_S4x224x224x4_0_1_2_3 (broadcastInDim S1x1x1x4 ![3] bcast_S4_S1x1x1x4_3 ((fun i => lit4 (S4.rowMajor i)))))) (constantI S_ 32 0#32) reducesTo_S4x224x224x4_S4x224x224_d3 h_S_ (ix3 b y x)
      = Finset.fold IntOp.addi 0#32 (fun d : Fin 4 => IntOp.muli (Ideal.fptosi 32 (h (ix4 b y x d) + h' (ix1 d))) (lit4 (S4.rowMajor (ix1 d)))) Finset.univ := by
  pointwise
  rfl

/-- The index words. -/
theorem words (b : Fin 4) (y x : Fin 224) : Host.reduce IntOp.addi (muli (fptosi 32 (addf (res_main_v78 (V0)) (broadcastInDim S4x224x224x4 ![0, 1, 2, 3] bcast_S1x1x1x4_S4x224x224x4_0_1_2_3 (broadcastInDim S1x1x1x4 ![3] bcast_S4_S1x1x1x4_3 (res_main_v83 (V0)))))) (broadcastInDim S4x224x224x4 ![0, 1, 2, 3] bcast_S1x1x1x4_S4x224x224x4_0_1_2_3 (broadcastInDim S1x1x1x4 ![3] bcast_S4_S1x1x1x4_3 ((fun i => lit4 (S4.rowMajor i)))))) (constantI S_ 32 0#32) reducesTo_S4x224x224x4_S4x224x224_d3 h_S_ (ix3 b y x) = Pixel.word (codes V0 b y x) := by
  refine (words_of (res_main_v78 V0) (res_main_v83 V0) b y x).trans ?_
  refine Eq.trans (Finset.fold_congr fun d _ => congrArg₂ (fun p q : EReal => IntOp.muli (Ideal.fptosi 32 (p + q)) (lit4 (S4.rowMajor (ix1 d)))) (rounded_apply hb b y x d) (half_width V0 d)) ((fold4 _).trans ?_)
  rw [Pixel.word_eq]
  simp only [BitVec.add_assoc, BitVec.add_zero]
  rfl

/-- The decoder's hidden layer with its border. -/
theorem border_apply (b : Fin 4) (k : Fin 192) (n s : Fin 226) :
    (res_main_v104 V0 : FVec Ideal S4x192x226x226 .f32) (ix4 b k n s)
      = if (1 ≤ n.val ∧ n.val ≤ 224) ∧ 1 ≤ s.val ∧ s.val ≤ 224 then
          max (∑ d : Fin 4, WD1 V0 k d * (Pixel.rnd (codes V0 b (n.val - 1) (s.val - 1)) d * Pixel.fsq d 4)) 0 else 0 := by
  refine (border_of _ _ _ _ _ b k n s).trans ?_
  split_ifs with hi
  · refine congrArg (fun z : EReal => max z 0) (Eq.trans (congrArg₂ (· + ·) (Finset.sum_congr rfl fun d _ => ?_) (hb.dec1 k)) (add_zero (∑ d : Fin 4, WD1 V0 k d * (Pixel.rnd (codes V0 b (n.val - 1) (s.val - 1)) d * Pixel.fsq d 4))))
    refine (mul_comm _ _).trans (congrArg (WD1 V0 k d * ·) ?_)
    refine Eq.trans (congrArg₂ Ideal.div (congrArg₂ (fun p q : EReal => p + (q - p)) (bounded_apply hb b _ _ d) (rounded_apply hb b _ _ d)) (half_width V0 d)) ?_
    rw [Pixel.bounded_add_sub, Pixel.div_hw]
  · rfl

abbrev inner (V0 : Valuation τ sig (Elt Ideal)) (b : Fin 4) (c : Fin 192) (n s : Fin 226) : EReal := (res_main_v104 V0 : FVec Ideal S4x192x226x226 .f32) (ix4 b c n s)
abbrev K2 (V0 : Valuation τ sig (Elt Ideal)) (o : Fin 3) (c : Fin 192) (ky kx : Fin 3) : EReal := (V0 (Proc.devRef .tc main_arg7) : FVec Ideal S3x192x3x3 .f32) (ix4 o c ky kx)

/-- A pixel's number for one of its neighbours, zero outside the image. -/
def tap (V0 : Valuation τ sig (Elt Ideal)) (b : Fin 4) (r : Fin 27) (n s : ℕ) : EReal :=
  if (1 ≤ n ∧ n ≤ 224) ∧ 1 ≤ s ∧ s ≤ 224 then Pixel.dec (WD1 V0) (WD2 V0) (codes V0 b (n - 1) (s - 1)) r else 0

/-- The decoded image. -/
theorem decoded (b : Fin 4) (o : Fin 3) (y x : Fin 224) :
    addf (res_main_v159 V0) (broadcastInDim S4x3x224x224 ![0, 1, 2, 3] bcast_S1x3x1x1_S4x3x224x224_0_1_2_3 (broadcastInDim S1x3x1x1 ![1] bcast_S3_S1x3x1x1_1 (V0 (Proc.devRef .tc main_arg8)))) (ix4 b o y x)
      = (let T (ky kx : Fin 3) : EReal := tap V0 b ⟨(ky.val * 3 + kx.val) * 3 + o.val, by omega⟩ (y.val + ky.val) (x.val + kx.val)
        T 0 0 + T 0 1 + T 0 2 + T 1 0 + T 1 1 + T 1 2 + T 2 0 + T 2 1 + T 2 2) := by
  have t (ky kx : Fin 3) : (∑ c : Fin 192, inner V0 b c ⟨ky.val + y.val, by omega⟩ ⟨kx.val + x.val, by omega⟩ * K2 V0 o c ky kx)
      = tap V0 b ⟨(ky.val * 3 + kx.val) * 3 + o.val, by omega⟩ (y.val + ky.val) (x.val + kx.val) := by
    unfold tap Pixel.dec
    simp only [Nat.add_comm y.val, Nat.add_comm x.val]
    have hd (k : Fin 192) : WD2 V0 ⟨(ky.val * 3 + kx.val) * 3 + o.val, by omega⟩ k = K2 V0 o k ky kx := by
      refine congrArg (V0 (Proc.devRef .tc main_arg7) : FVec Ideal S3x192x3x3 .f32) ?_
      congr 1 <;> apply Fin.ext <;> dsimp only <;> omega
    split_ifs with hi
    · refine Finset.sum_congr rfl fun k _ => ?_
      refine (mul_comm _ _).trans (congrArg₂ (fun p q : EReal => p * q) (hd k).symm ?_)
      exact (border_apply hb b k _ _).trans (if_pos hi)
    · exact Finset.sum_eq_zero fun k _ => (congrArg (fun z : EReal => z * _) ((border_apply hb b k _ _).trans (if_neg hi))).trans (zero_mul _)
  refine (decoded_of _ _ _ b o y x).trans (Eq.trans (congrArg₂ (fun p q : EReal => p + q) ?_ (hb.dec2 o)) (add_zero _))
  have e {p q r s : EReal} (h1 : p = q) (h2 : r = s) : p + r = q + s := congrArg₂ (· + ·) h1 h2
  exact e (e (e (e (e (e (e (e (t 0 0) (t 0 1)) (t 0 2)) (t 1 0)) (t 1 1)) (t 1 2)) (t 2 0)) (t 2 1)) (t 2 2)

end Cert.ReferenceIdeal.Read

end
-- ==== Proof.Result.lean ====
module

public import proofs.«01_k».proof.Proof.Launched
public import proofs.«01_k».proof.Proof.RefValue

@[expose] public section

/-!
The kernel's result arrays are the reference's: both are one closed form of the arguments, pixel by pixel.
-/

set_option maxRecDepth 16384

noncomputable section

namespace Cert.Result

open Cert.KernelIdeal Cert.KernelIdeal.Gen Cert.KernelIdeal.Launched
open Idealize.ShloMosaic Idealize.ShloMosaic.TcCoe Idealize.ShloMosaic.Tactic Idealize.SL.Sem
open Cert.ReferenceIdeal.Read (codes NoBias)

abbrev RefVals : Type := Valuation Cert.ReferenceIdeal.τ Cert.ReferenceIdeal.sig (Elt Ideal)

variable (m : (ℓ : Loc nD τ sig) → Buf (Elt Ideal) ℓ) (V' : RefVals)

/-- The reference's arrays are the kernel's: the image and the four weights. -/
structure Agree (c : Dev nD) : Prop where
  image : @Eq (FVec Ideal S4x3x224x224 .f32) (V' (Proc.devRef .tc Cert.ReferenceIdeal.main_arg0)) (m ((c : Thread nD τ).loc main_arg0))
  w1 : @Eq (FVec Ideal S192x3x3x3 .f32) (V' (Proc.devRef .tc Cert.ReferenceIdeal.main_arg1)) (m ((c : Thread nD τ).loc main_arg1))
  w2 : @Eq (FVec Ideal S4x192x1x1 .f32) (V' (Proc.devRef .tc Cert.ReferenceIdeal.main_arg3)) (m ((c : Thread nD τ).loc main_arg3))
  wd1 : @Eq (FVec Ideal S192x4x1x1 .f32) (V' (Proc.devRef .tc Cert.ReferenceIdeal.main_arg5)) (m ((c : Thread nD τ).loc main_arg5))
  wd2 : @Eq (FVec Ideal S3x192x3x3 .f32) (V' (Proc.devRef .tc Cert.ReferenceIdeal.main_arg7)) (m ((c : Thread nD τ).loc main_arg7))

/-- The decoded image, from the reference's arrays. -/
def dec : FVec Ideal S4x3x224x224 .f32 := fun i =>
  let T (ky kx : Fin 3) : EReal :=
    Cert.ReferenceIdeal.Read.tap V' (i 0) ⟨(ky.val * 3 + kx.val) * 3 + (i 1).val, by have := (i 1).isLt; change _ < 3 at this; omega⟩ ((i 2).val + ky.val) ((i 3).val + kx.val)
  T 0 0 + T 0 1 + T 0 2 + T 1 0 + T 1 1 + T 1 2 + T 2 0 + T 2 1 + T 2 2

/-- The index words, from the reference's arrays. -/
def idx : IVec S4x224x224 32 := fun i => Pixel.word (codes V' (i 0) (i 1).val (i 2).val)

variable {m V'}

section Kernel

variable {c : Dev nD} (ha : Agree m V' c) (t : Fin cfg0.N)
include ha

theorem pixel_eq (b : Fin 4) (ch : Fin 3) (n s : ℕ) : Entry.pixel m c b ch (n + 1) (s + 1) = Cert.ReferenceIdeal.Read.padded V' b ch n s := by
  unfold Entry.pixel Cert.ReferenceIdeal.Read.padded
  split_ifs with h1 h2 h2
  · exact (congrFun ha.image _).symm
  · omega
  · omega
  · rfl

theorem patch_eq (yy : ℕ) (s : Fin 226) (h : yy < 226) (y x : ℕ) (hy : yy = y + 1) (hx : s.val = x + 1) (q : Fin 27) :
    Spec.patch ![iblk m c 0 t, iblk m c 1 t, iblk m c 2 t] yy s h q = Cert.ReferenceIdeal.Read.window V' (Entry.image t) y x q := by
  have e (j : Fin 3) (n : Fin 234) : (![iblk m c 0 t, iblk m c 1 t, iblk m c 2 t] j : Vec Ideal S1x3x234x226 .bf16) (ix4 (0 : Fin 1) (⟨q.val / 9, by omega⟩ : Fin 3) n s)
      = Entry.pixel m c (Entry.image t) ⟨q.val / 9, by omega⟩ n (s.val + j.val) := by
    match j with
    | ⟨0, _⟩ => exact Entry.x0 m c t _ n s
    | ⟨1, _⟩ => exact Entry.x1 m c t _ n s
    | ⟨2, _⟩ => exact Entry.x2 m c t _ n s
  refine (e ⟨q.val % 3, Nat.mod_lt _ (by decide)⟩ ⟨yy + q.val % 9 / 3, by omega⟩).trans ?_
  refine Eq.trans ?_ (pixel_eq ha _ _ _ _)
  congr 1 <;> dsimp only <;> omega

theorem code_eq (yy : ℕ) (s : Fin 226) (h : yy < 226) (y x : ℕ) (hy : yy = y + 1) (hx : s.val = x + 1) :
    Spec.code ![iblk m c 0 t, iblk m c 1 t, iblk m c 2 t] (iblk m c 3 t) (iblk m c 4 t) yy s h = codes V' (Entry.image t) y x := by
  have e1 : Tower.mat (iblk m c 3 t : Vec Ideal S192x27 .bf16) = Cert.ReferenceIdeal.Read.W1 V' := by
    funext k q
    exact (Entry.w1 m c t k q).trans (congrFun ha.w1 _).symm
  have e2 : Tower.mat (iblk m c 4 t : Vec Ideal S4x192 .bf16) = Cert.ReferenceIdeal.Read.W2 V' := by
    funext d k
    exact (Entry.w2 m c t d k).trans (congrFun ha.w2 _).symm
  unfold Spec.code codes
  rw [show Spec.patch ![iblk m c 0 t, iblk m c 1 t, iblk m c 2 t] yy s h = _ from funext (patch_eq ha t yy s h y x hy hx), e1, e2]

theorem tap_eq (r : Fin 27) (yy s : ℕ) :
    Spec.tap ![iblk m c 0 t, iblk m c 1 t, iblk m c 2 t] (iblk m c 3 t) (iblk m c 4 t) (iblk m c 5 t) (iblk m c 6 t) r yy s
      = Cert.ReferenceIdeal.Read.tap V' (Entry.image t) r yy s := by
  have e1 : Tower.mat (iblk m c 5 t : Vec Ideal S192x4 .bf16) = Cert.ReferenceIdeal.Read.WD1 V' := by
    funext k d
    exact (Entry.wd1 m c t k d).trans (congrFun ha.wd1 _).symm
  have e2 : Tower.mat (iblk m c 6 t : Vec Ideal S27x192 .bf16) = Cert.ReferenceIdeal.Read.WD2 V' := by
    funext r k
    exact (Entry.wd2 m c t r k).trans (congrFun ha.wd2 _).symm
  unfold Spec.tap Cert.ReferenceIdeal.Read.tap
  split_ifs with h
  · rw [code_eq ha t yy ⟨s, by omega⟩ (by omega) (yy - 1) (s - 1) (by omega) (by dsimp only; omega), e1, e2]
  · rfl

omit ha in
theorem index8 : win0_8.index t 0 = t.val := by
  have ht : t.val < 4 := Nat.lt_of_lt_of_eq t.isLt N_0
  have e0 : (grid0.coords t 0).val = t.val / 1 % 4 := Pipeline.Grid.coords_val t 0 (by decide) rfl
  change BitVec.toNat (BitVec.ofNat 32 (grid0.coords t 0).val) = _
  rw [e0]
  simp
  omega

omit ha in
theorem index9 : win0_9.index t 0 = t.val := by
  have ht : t.val < 4 := Nat.lt_of_lt_of_eq t.isLt N_0
  have e0 : (grid0.coords t 0).val = t.val / 1 % 4 := Pipeline.Grid.coords_val t 0 (by decide) rfl
  change BitVec.toNat (BitVec.ofNat 32 (grid0.coords t 0).val) = _
  rw [e0]
  simp
  omega

omit ha in
theorem band8 : win0_8.index t 2 = 0 := by
  have e0 : (grid0.coords t 1).val = t.val / 1 % 1 := Pipeline.Grid.coords_val t 1 (by decide) rfl
  change BitVec.toNat (BitVec.ofNat 32 (grid0.coords t 1).val) = _
  rw [e0]
  simp [Nat.mod_one]

omit ha in
theorem band9 : win0_9.index t 1 = 0 := by
  have e0 : (grid0.coords t 1).val = t.val / 1 % 1 := Pipeline.Grid.coords_val t 1 (by decide) rfl
  change BitVec.toNat (BitVec.ofNat 32 (grid0.coords t 1).val) = _
  rw [e0]
  simp [Nat.mod_one]

omit ha in
theorem emb8 (y : S1x3x224x224.Idx) : ((win0_8.blk t).view.emb y : S4x3x224x224.Idx) = ix4 (Entry.image t) (y 1) (y 2) (y 3) := by
  have h0 : (y 0).val < 1 := (y 0).isLt
  have h1 : ∀ n, n = t.val → n * 1 + (y 0).val = t.val := by omega
  have h2 : ∀ n k z : ℕ, n = 0 → n * k + z = z := by intro n k z h; rw [h, Nat.zero_mul, Nat.zero_add]
  have e := fun a => Pipeline.Window.rect_emb_val win0_8 t y a
  funext a
  apply Fin.ext
  match a with
  | ⟨0, _⟩ => exact (e 0).trans (h1 _ (index8 t))
  | ⟨1, _⟩ => exact (e 1).trans (h2 _ _ _ rfl)
  | ⟨2, _⟩ => exact (e 2).trans (h2 _ _ _ (band8 t))
  | ⟨3, _⟩ => exact (e 3).trans (h2 _ _ _ rfl)

omit ha in
theorem emb9 (y : S1x224x224.Idx) : ((win0_9.blk t).view.emb y : S4x224x224.Idx) = ix3 (Entry.image t) (y 1) (y 2) := by
  have h0 : (y 0).val < 1 := (y 0).isLt
  have h1 : ∀ n, n = t.val → n * 1 + (y 0).val = t.val := by omega
  have h2 : ∀ n k z : ℕ, n = 0 → n * k + z = z := by intro n k z h; rw [h, Nat.zero_mul, Nat.zero_add]
  have e := fun a => Pipeline.Window.rect_emb_val win0_9 t y a
  funext a
  apply Fin.ext
  match a with
  | ⟨0, _⟩ => exact (e 0).trans (h1 _ (index9 t))
  | ⟨1, _⟩ => exact (e 1).trans (h2 _ _ _ (band9 t))
  | ⟨2, _⟩ => exact (e 2).trans (h2 _ _ _ rfl)

theorem dec_point (y : S1x3x224x224.Idx) : Spec.decBlk ![iblk m c 0 t, iblk m c 1 t, iblk m c 2 t] (iblk m c 3 t) (iblk m c 4 t) (iblk m c 5 t) (iblk m c 6 t) y
    = dec V' (ix4 (Entry.image t) (y 1) (y 2) (y 3)) := by
  unfold Spec.decBlk dec
  simp only [tap_eq ha t]
  rfl

theorem idx_point (y : S1x224x224.Idx) : Spec.idxBlk ![iblk m c 0 t, iblk m c 1 t, iblk m c 2 t] (iblk m c 3 t) (iblk m c 4 t) y
    = idx V' (ix3 (Entry.image t) (y 1) (y 2)) := by
  unfold Spec.idxBlk idx
  rw [code_eq ha t _ _ _ (y 1).val (y 2).val rfl rfl]
  rfl

theorem arr_dec : @Eq (FVec Ideal S4x3x224x224 .f32) ((dats m 0 c).arrAt 8 cfg0.N) (dec V') := by
  refine (dats m 0 c).arrAt_eq_of_covers 8 _ (by decide +kernel) fun t hf y => ?_
  blk_simp
  rw [after_8]
  refine (dec_point ha t y).trans (congrArg (dec V') (emb8 t y).symm)

theorem arr_idx : @Eq (IVec S4x224x224 32) ((dats m 0 c).arrAt 9 cfg0.N) (idx V') := by
  refine (dats m 0 c).arrAt_eq_of_covers 9 _ (by decide +kernel) fun t hf y => ?_
  blk_simp
  rw [after_9]
  refine (idx_point ha t y).trans (congrArg (idx V') (emb9 t y).symm)

end Kernel

section Reference

variable (hb : NoBias V')
include hb

theorem ref_dec : @Eq (FVec Ideal S4x3x224x224 .f32)
    (addf (Cert.ReferenceIdeal.Value.res_main_v159 V') (broadcastInDim Cert.ReferenceIdeal.S4x3x224x224 ![0, 1, 2, 3] Cert.ReferenceIdeal.Gen.bcast_S1x3x1x1_S4x3x224x224_0_1_2_3 (broadcastInDim Cert.ReferenceIdeal.S1x3x1x1 ![1] Cert.ReferenceIdeal.Gen.bcast_S3_S1x3x1x1_1 (V' (Proc.devRef .tc Cert.ReferenceIdeal.main_arg8)))))
    (dec V') := by
  funext i
  have hi : i = ix4 (i 0) (i 1) (i 2) (i 3) := by funext a; fin_cases a <;> rfl
  rw [hi]
  exact Cert.ReferenceIdeal.Read.decoded hb _ _ _ _

theorem ref_idx (e : IVec S4x224x224 32) (he : ∀ b y x, e (ix3 b y x) = Pixel.word (codes V' b y.val x.val)) : e = idx V' := by
  funext i
  have hi : i = ix3 (i 0) (i 1) (i 2) := by funext a; fin_cases a <;> rfl
  rw [hi]
  exact he _ _ _

end Reference

end Cert.Result

end
-- ==== Proof.Bias.lean ====
module

public import proofs.«01_k».proof.Pre_zero_biases
public import proofs.«01_k».proof.Proof.Gen.Pre_zero_biases
public import proofs.«01_k».proof.Proof.Result
public import Idealize.ShloMosaic.Lib.ReduceAll

@[expose] public section

/-!
What the precondition says of the four bias vectors, and what a run of the launch leaves in the kernel's results.
-/

set_option maxRecDepth 16384

noncomputable section

namespace Cert.Bias

open Cert.KernelIdeal Cert.KernelIdeal.Gen Cert.KernelIdeal.Launched Cert.Result
open Idealize.ShloMosaic Idealize.ShloMosaic.TcCoe Idealize.ShloMosaic.Tactic Idealize.SL.Sem
open Cert.ReferenceIdeal.Read (NoBias)

/-- A vector is zero when all its comparisons with zero hold. -/
theorem zero_of_all {s t u : Shape} {axes : List (Fin s.rank)} [Subsingleton t.Idx] (x : FVec Ideal s .f32) (z : FVec Ideal s .f32) (init : u.Idx → BitVec 1)
    (hz : ∀ i, @Eq EReal (z i) 0) (h : s.ReducesTo axes t) (hu : 0 < u.numel) (j : t.Idx)
    (e : Host.reduce IntOp.andi (cmpf .oeq x z) init h hu j = 1#1) (i : s.Idx) : @Eq EReal (x i) 0 := by
  have h1 : Ideal.cmp .oeq (x i) (z i) = 1 := Host.reduce_andi_all (cmpf .oeq x z) init h hu j e i
  exact ((Ideal.cmp_oeq_eq_one _ _).mp h1).trans (hz i)

/-- Under the precondition the four bias vectors are zero. -/
theorem biases (a0 : FVec Ideal S4x3x224x224 .f32) (a1 : FVec Ideal S192x3x3x3 .f32) (a2 : FVec Ideal Cert.Pre_zero_biases.S192 .f32) (a3 : FVec Ideal S4x192x1x1 .f32) (a4 : FVec Ideal Cert.Pre_zero_biases.S4 .f32)
    (a5 : FVec Ideal S192x4x1x1 .f32) (a6 : FVec Ideal Cert.Pre_zero_biases.S192 .f32) (a7 : FVec Ideal S3x192x3x3 .f32) (a8 : FVec Ideal Cert.Pre_zero_biases.S3 .f32)
    (h : @Cert.Pre_zero_biases.fn Cert.Pre_zero_biases.Gen.facts Ideal _ a0 a1 a2 a3 a4 a5 a6 a7 a8 = fun _ => 1#1) :
    (∀ i, @Eq EReal (a2 i) 0) ∧ (∀ i, @Eq EReal (a4 i) 0) ∧ (∀ i, @Eq EReal (a6 i) 0) ∧ ∀ i, @Eq EReal (a8 i) 0 := by
  have : Subsingleton Cert.Pre_zero_biases.S_.Idx := ⟨fun x y => funext fun a => a.elim0⟩
  have h0 := congrFun h (fun a => a.elim0)
  unfold Cert.Pre_zero_biases.fn at h0
  dsimp only at h0
  obtain ⟨h1, h8⟩ := IntOp.andi_eq_one.mp h0
  obtain ⟨h2, h6⟩ := IntOp.andi_eq_one.mp h1
  obtain ⟨h3, h4⟩ := IntOp.andi_eq_one.mp h2
  exact ⟨zero_of_all _ _ _ (fun _ => Ideal.ofBits_zero_f32) _ _ _ h3, zero_of_all _ _ _ (fun _ => Ideal.ofBits_zero_f32) _ _ _ h4,
    zero_of_all _ _ _ (fun _ => Ideal.ofBits_zero_f32) _ _ _ h6, zero_of_all _ _ _ (fun _ => Ideal.ofBits_zero_f32) _ _ _ h8⟩

/-- The three results of a run of the kernel. -/
theorem results (m : (ℓ : Loc nD τ sig) → Buf (Elt Ideal) ℓ) (V' : Dev nD → RefVals) (ha : ∀ c, Agree m (V' c) c) (r : PUnit × MemSt nD τ sig (Elt Ideal))
    (h : Pipeline.FramePost cfgs (dats m) 0 (Pipeline.afterTail₀ cfgs (dats m) 0 (V0 m) [hostOps1]) r) (c : Dev nD) :
    @Eq (FVec Ideal S4x3x224x224 .f32) (r.2.mem ((c.tc : Thread nD τ).loc main_v0_0)) (dec (V' c))
      ∧ @Eq (FVec Ideal S_ .f32) (r.2.mem ((c.tc : Thread nD τ).loc main_v0_1)) (constant S_ .f32 0x00000000#32)
      ∧ @Eq (IVec S4x224x224 32) (r.2.mem ((c.tc : Thread nD τ).loc main_v0_2)) (idx (V' c)) := by
  refine ⟨((h c).1 8).trans (arr_dec (ha c)), ?_, ((h c).1 9).trans (arr_idx (ha c))⟩
  refine ((h c).2 main_v0_1 (Pipeline.mem_restRefs_of main_v0_1 (by decide) (by decide))).trans ?_
  unfold Pipeline.afterTail₀
  simp only [hostOps1, List.flatten_cons, List.flatten_nil, List.append_nil]
  after_results
  rfl

end Cert.Bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_zero_biases
public import proofs.«01_k».proof.Proof.KernelFrame
public import proofs.«01_k».proof.Proof.Bias
public import Idealize.ShloMosaic.Adequacy
public import Idealize.ShloMosaic.Init

@[expose] public section

noncomputable section

namespace Cert.Proof

open Idealize.ShloMosaic Idealize.SL.Sem Cert.Kernel

/-- The idealized kernel leaves its arguments and its semaphores as they were. -/
theorem kernel_unchanged : Cert.quiescent_KernelIdeal (hKernelIdeal := Cert.KernelIdeal.Gen.facts) := fun m g _ =>
  (θ_run Cert.KernelIdeal.defs _ _).mono (fun _ h => ⟨h.2, h.1.2⟩)
    (θ_run_and (Cert.KernelIdeal.Launched.run_main_quiescent m g)
      (Cert.KernelIdeal.Gen.frame_of m g (Cert.KernelIdeal.Launched.dats m) (Cert.KernelIdeal.Launched.A_eq m) (Cert.KernelIdeal.Launched.run_main m g)))

/-- So does the reference, which has no semaphore. -/
theorem reference_unchanged : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩) (Cert.ReferenceIdeal.Value.run m g)

/-- The two programs leave the same three results, when the biases are zero. -/
theorem same_results : Cert.algebraic_KernelIdeal_ReferenceIdeal_pre_zero_biases (hKernelIdeal := Cert.KernelIdeal.Gen.facts)
    (hReferenceIdeal := Cert.ReferenceIdeal.Gen.facts) (hPre_zero_biases := Cert.Pre_zero_biases.Gen.facts) := by
  intro m g m' g' hp he
  have ha (c : Dev Cert.KernelIdeal.nD) : Cert.Result.Agree m (StableHlo.launchContents m' c) c := by
    obtain ⟨h0, h1, h2, h3, h4, h5, h6, h7, h8⟩ := he c
    exact ⟨h0, h1, h3, h5, h7⟩
  have hb (c : Dev Cert.KernelIdeal.nD) : Cert.ReferenceIdeal.Read.NoBias (StableHlo.launchContents m' c) := by
    obtain ⟨h0, h1, h2, h3, h4, h5, h6, h7, h8⟩ := he c
    obtain ⟨z2, z4, z6, z8⟩ := Cert.Bias.biases _ _ _ _ _ _ _ _ _ (hp c)
    exact ⟨fun k => (congrFun h2 (ix1 k)).trans (z2 _), fun k => (congrFun h4 (ix1 k)).trans (z4 _),
      fun k => (congrFun h6 (ix1 k)).trans (z6 _), fun k => (congrFun h8 (ix1 k)).trans (z8 _)⟩
  refine ⟨fun c => Cert.Result.dec (StableHlo.launchContents m' c), fun _ => (constant Cert.KernelIdeal.S_ .f32 0x00000000#32 : FVec Ideal Cert.KernelIdeal.S_ .f32),
    fun c => Cert.Result.idx (StableHlo.launchContents m' c), ?_, ?_⟩
  · refine (θ_run Cert.KernelIdeal.defs _ _).mono (fun r h c => ?_) (θ_run_and (Cert.KernelIdeal.Launched.run_main m g)
      (Cert.KernelIdeal.Gen.frame_of m g (Cert.KernelIdeal.Launched.dats m) (Cert.KernelIdeal.Launched.A_eq m) (Cert.KernelIdeal.Launched.run_main m g)))
    have h3 := Cert.Bias.results m (fun c => StableHlo.launchContents m' c) ha r h.1 c
    exact ⟨h3.1, h3.2.1, h3.2.2, h.2 c⟩
  · refine (θ_run Cert.ReferenceIdeal.defs _ _).mono (fun r h c => ?_) (Cert.ReferenceIdeal.Value.run m' g')
    obtain ⟨h0, h1, h2, hu⟩ := h c
    exact ⟨h0.trans (Cert.Result.ref_dec (hb c)), h1, h2.trans (Cert.Result.ref_idx (hb c) _ fun b y x => Cert.ReferenceIdeal.Read.words (hb c) b y x), hu⟩

theorem claim : Cert.Claim := ⟨Cert.Kernel.Gen.facts, Cert.KernelIdeal.Gen.facts, Cert.ReferenceIdeal.Gen.facts, Cert.Pre_zero_biases.Gen.facts,
  fun m g _ => Cert.Kernel.Launched.unchanged m g, kernel_unchanged, fun m g _ => kernel_unchanged m g trivial,
  reference_unchanged, fun m g _ => reference_unchanged m g trivial, trivial, same_results⟩

end Cert.Proof

end
